-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x16x64 : Shape := ⟨3, ![4096, 16, 64]⟩
abbrev S4096 : Shape := ⟨1, ![4096]⟩
abbrev S4x16x16x16x4 : Shape := ⟨5, ![4, 16, 16, 16, 4]⟩
abbrev S4x16x16x2 : Shape := ⟨4, ![4, 16, 16, 2]⟩
abbrev S4x16x1 : Shape := ⟨3, ![4, 16, 1]⟩
abbrev S4x4x4x64 : Shape := ⟨4, ![4, 4, 4, 64]⟩
abbrev S4x4x2x64 : Shape := ⟨4, ![4, 4, 2, 64]⟩
abbrev S4x4x1x64 : Shape := ⟨4, ![4, 4, 1, 64]⟩
abbrev S_ : Shape := ⟨0, ![]⟩

class Facts : Prop where
  bcast_S_S4096x16x64 : S_.BroadcastsInDim S4096x16x64 (![] : Fin 0 → Fin S4096x16x64.rank)
  bcast_S_S4x16x16x16x4 : S_.BroadcastsInDim S4x16x16x16x4 (![] : Fin 0 → Fin S4x16x16x16x4.rank)
  bcast_S_S4x16x16x2 : S_.BroadcastsInDim S4x16x16x2 (![] : Fin 0 → Fin S4x16x16x2.rank)
  bcast_S_S4x16x1 : S_.BroadcastsInDim S4x16x1 (![] : Fin 0 → Fin S4x16x1.rank)
  bcast_S_S4x4x4x64 : S_.BroadcastsInDim S4x4x4x64 (![] : Fin 0 → Fin S4x4x4x64.rank)
  bcast_S_S4x4x2x64 : S_.BroadcastsInDim S4x4x2x64 (![] : Fin 0 → Fin S4x4x2x64.rank)
  bcast_S_S4x4x1x64 : S_.BroadcastsInDim S4x4x1x64 (![] : Fin 0 → Fin S4x4x1x64.rank)

variable [Facts]

def fn_part1 {F : FTy → Type} [FloatOps F] (main_arg7 : FVec F S4x4x1x64 .f32) (main_v2 : IVec S4096x16x64 1) (main_v5 : IVec S4x16x16x16x4 1) (main_v8 : IVec S4x16x16x2 1) (main_v11 : IVec S4x16x1 1) (main_v14 : IVec S4x4x4x64 1) (main_v17 : IVec S4x4x2x64 1) : IVec S4096x16x64 1 × IVec S4x16x16x16x4 1 × IVec S4x16x16x2 1 × IVec S4x16x1 1 × IVec S4x4x4x64 1 × IVec S4x4x2x64 1 × IVec S4x4x1x64 1 :=
  let main_v18 : FVec F S4x4x1x64 .f32 := Host.absf main_arg7
  let main_cst_5 : FVec F S_ .f32 := constant S_ .f32 0x7F800000#32
  let main_v19 : FVec F S4x4x1x64 .f32 := broadcastInDim S4x4x1x64 ![] bcast_S_S4x4x1x64 main_cst_5
  let main_v20 : IVec S4x4x1x64 1 := cmpf .olt main_v18 main_v19
  (main_v2, main_v5, main_v8, main_v11, main_v14, main_v17, main_v20)

def fn {F : FTy → Type} [FloatOps F] (main_arg0 : FVec F S4096x16x64 .f32) (main_arg1 : IVec S4096 32) (main_arg2 : FVec F S4x16x16x16x4 .f32) (main_arg3 : FVec F S4x16x16x2 .f32) (main_arg4 : FVec F S4x16x1 .f32) (main_arg5 : FVec F S4x4x4x64 .f32) (main_arg6 : FVec F S4x4x2x64 .f32) (main_arg7 : FVec F S4x4x1x64 .f32) : IVec S4096x16x64 1 × IVec S4x16x16x16x4 1 × IVec S4x16x16x2 1 × IVec S4x16x1 1 × IVec S4x4x4x64 1 × IVec S4x4x2x64 1 × IVec S4x4x1x64 1 :=
  let main_v0 : FVec F S4096x16x64 .f32 := Host.absf main_arg0
  let main_cst : FVec F S_ .f32 := constant S_ .f32 0x7F800000#32
  let main_v1 : FVec F S4096x16x64 .f32 := broadcastInDim S4096x16x64 ![] bcast_S_S4096x16x64 main_cst
  let main_v2 : IVec S4096x16x64 1 := cmpf .olt main_v0 main_v1
  let main_v3 : FVec F S4x16x16x16x4 .f32 := Host.absf main_arg2
  let main_cst_0 : FVec F S_ .f32 := constant S_ .f32 0x7F800000#32
  let main_v4 : FVec F S4x16x16x16x4 .f32 := broadcastInDim S4x16x16x16x4 ![] bcast_S_S4x16x16x16x4 main_cst_0
  let main_v5 : IVec S4x16x16x16x4 1 := cmpf .olt main_v3 main_v4
  let main_v6 : FVec F S4x16x16x2 .f32 := Host.absf main_arg3
  let main_cst_1 : FVec F S_ .f32 := constant S_ .f32 0x7F800000#32
  let main_v7 : FVec F S4x16x16x2 .f32 := broadcastInDim S4x16x16x2 ![] bcast_S_S4x16x16x2 main_cst_1
  let main_v8 : IVec S4x16x16x2 1 := cmpf .olt main_v6 main_v7
  let main_v9 : FVec F S4x16x1 .f32 := Host.absf main_arg4
  let main_cst_2 : FVec F S_ .f32 := constant S_ .f32 0x7F800000#32
  let main_v10 : FVec F S4x16x1 .f32 := broadcastInDim S4x16x1 ![] bcast_S_S4x16x1 main_cst_2
  let main_v11 : IVec S4x16x1 1 := cmpf .olt main_v9 main_v10
  let main_v12 : FVec F S4x4x4x64 .f32 := Host.absf main_arg5
  let main_cst_3 : FVec F S_ .f32 := constant S_ .f32 0x7F800000#32
  let main_v13 : FVec F S4x4x4x64 .f32 := broadcastInDim S4x4x4x64 ![] bcast_S_S4x4x4x64 main_cst_3
  let main_v14 : IVec S4x4x4x64 1 := cmpf .olt main_v12 main_v13
  let main_v15 : FVec F S4x4x2x64 .f32 := Host.absf main_arg6
  let main_cst_4 : FVec F S_ .f32 := constant S_ .f32 0x7F800000#32
  let main_v16 : FVec F S4x4x2x64 .f32 := broadcastInDim S4x4x2x64 ![] bcast_S_S4x4x2x64 main_cst_4
  let main_v17 : IVec S4x4x2x64 1 := cmpf .olt main_v15 main_v16
  fn_part1 (F := F) main_arg7 main_v2 main_v5 main_v8 main_v11 main_v14 main_v17
-- ==== Kernel.lean ====
abbrev S4096x16x64 : Shape := ⟨3, ![4096, 16, 64]⟩
abbrev S4096 : Shape := ⟨1, ![4096]⟩
abbrev S4x16x16x16x4 : Shape := ⟨5, ![4, 16, 16, 16, 4]⟩
abbrev S4x16x16x2 : Shape := ⟨4, ![4, 16, 16, 2]⟩
abbrev S4x16x1 : Shape := ⟨3, ![4, 16, 1]⟩
abbrev S4x4x4x64 : Shape := ⟨4, ![4, 4, 4, 64]⟩
abbrev S4x4x2x64 : Shape := ⟨4, ![4, 4, 2, 64]⟩
abbrev S4x4x1x64 : Shape := ⟨4, ![4, 4, 1, 64]⟩
abbrev S1x16x16 : Shape := ⟨3, ![1, 16, 16]⟩
abbrev S4x4x16x16x16 : Shape := ⟨5, ![4, 4, 16, 16, 16]⟩
abbrev S256x16x16 : Shape := ⟨3, ![256, 16, 16]⟩
abbrev S256x8x16 : Shape := ⟨3, ![256, 8, 16]⟩
abbrev S256x128 : Shape := ⟨2, ![256, 128]⟩
abbrev S256x8x8 : Shape := ⟨3, ![256, 8, 8]⟩
abbrev S256x64 : Shape := ⟨2, ![256, 64]⟩
abbrev S256x192 : Shape := ⟨2, ![256, 192]⟩
abbrev S4x2x16x16 : Shape := ⟨4, ![4, 2, 16, 16]⟩
abbrev S128x16 : Shape := ⟨2, ![128, 16]⟩
abbrev S4x16 : Shape := ⟨2, ![4, 16]⟩
abbrev S4x4x7x64 : Shape := ⟨4, ![4, 4, 7, 64]⟩
abbrev S4x28x64 : Shape := ⟨3, ![4, 28, 64]⟩
abbrev S1x4x1x28x1x64 : Shape := ⟨6, ![1, 4, 1, 28, 1, 64]⟩
abbrev S1x4x1x28x128x64 : Shape := ⟨6, ![1, 4, 1, 28, 128, 64]⟩
abbrev S4x28x8192 : Shape := ⟨3, ![4, 28, 8192]⟩
abbrev S4096x64 : Shape := ⟨2, ![4096, 64]⟩
abbrev S262144 : Shape := ⟨1, ![262144]⟩
abbrev S1x262144 : Shape := ⟨2, ![1, 262144]⟩
abbrev S16x4096x64 : Shape := ⟨3, ![16, 4096, 64]⟩
abbrev S16x262144 : Shape := ⟨2, ![16, 262144]⟩
abbrev S4x262144 : Shape := ⟨2, ![4, 262144]⟩
abbrev S16x8192 : Shape := ⟨2, ![16, 8192]⟩
abbrev S1x8192 : Shape := ⟨2, ![1, 8192]⟩
abbrev S4x8192 : Shape := ⟨2, ![4, 8192]⟩
abbrev S8x8192 : Shape := ⟨2, ![8, 8192]⟩
abbrev S192x8192 : Shape := ⟨2, ![192, 8192]⟩
abbrev S256x8192 : Shape := ⟨2, ![256, 8192]⟩
abbrev S128x8192 : Shape := ⟨2, ![128, 8192]⟩
abbrev S1x28x8192 : Shape := ⟨3, ![1, 28, 8192]⟩
abbrev S28x8192 : Shape := ⟨2, ![28, 8192]⟩
abbrev S8192 : Shape := ⟨1, ![8192]⟩
abbrev S4x4096x64 : Shape := ⟨3, ![4, 4096, 64]⟩
abbrev S4096x4x64 : Shape := ⟨3, ![4096, 4, 64]⟩

abbrev nBuf : Space → Nat
  | .hbm => 38
  | .vmem => 10
  | .smem => 0
  | _ => 0

abbrev bufTy : (tb : Table) → Fin (tcTables nBuf tb) → BufTy
  | .hbm, ⟨0, _⟩ => ⟨S4096x16x64, .f32⟩
  | .hbm, ⟨1, _⟩ => ⟨S4096, .i32⟩
  | .hbm, ⟨2, _⟩ => ⟨S4x16x16x16x4, .f32⟩
  | .hbm, ⟨3, _⟩ => ⟨S4x16x16x2, .f32⟩
  | .hbm, ⟨4, _⟩ => ⟨S4x16x1, .f32⟩
  | .hbm, ⟨5, _⟩ => ⟨S4x4x4x64, .f32⟩
  | .hbm, ⟨6, _⟩ => ⟨S4x4x2x64, .f32⟩
  | .hbm, ⟨7, _⟩ => ⟨S4x4x1x64, .f32⟩
  | .hbm, ⟨8, _⟩ => ⟨S1x16x16, .f32⟩
  | .hbm, ⟨9, _⟩ => ⟨S4x4x16x16x16, .f32⟩
  | .hbm, ⟨10, _⟩ => ⟨S256x16x16, .f32⟩
  | .hbm, ⟨11, _⟩ => ⟨S256x16x16, .f32⟩
  | .hbm, ⟨12, _⟩ => ⟨S256x16x16, .f32⟩
  | .hbm, ⟨13, _⟩ => ⟨S256x16x16, .f32⟩
  | .hbm, ⟨14, _⟩ => ⟨S256x16x16, .f32⟩
  | .hbm, ⟨15, _⟩ => ⟨S256x8x16, .f32⟩
  | .hbm, ⟨16, _⟩ => ⟨S256x128, .f32⟩
  | .hbm, ⟨17, _⟩ => ⟨S256x8x8, .f32⟩
  | .hbm, ⟨18, _⟩ => ⟨S256x64, .f32⟩
  | .hbm, ⟨19, _⟩ => ⟨S256x192, .f32⟩
  | .hbm, ⟨20, _⟩ => ⟨S4x2x16x16, .f32⟩
  | .hbm, ⟨21, _⟩ => ⟨S128x16, .f32⟩
  | .hbm, ⟨22, _⟩ => ⟨S4x16, .f32⟩
  | .hbm, ⟨23, _⟩ => ⟨S4x4x7x64, .f32⟩
  | .hbm, ⟨24, _⟩ => ⟨S4x4x7x64, .f32⟩
  | .hbm, ⟨25, _⟩ => ⟨S4x28x64, .f32⟩
  | .hbm, ⟨26, _⟩ => ⟨S1x4x1x28x1x64, .f32⟩
  | .hbm, ⟨27, _⟩ => ⟨S1x4x1x28x128x64, .f32⟩
  | .hbm, ⟨28, _⟩ => ⟨S4x28x8192, .f32⟩
  | .hbm, ⟨29, _⟩ => ⟨S4096, .f32⟩
  | .hbm, ⟨30, _⟩ => ⟨S4096x64, .f32⟩
  | .hbm, ⟨31, _⟩ => ⟨S262144, .f32⟩
  | .hbm, ⟨32, _⟩ => ⟨S1x262144, .f32⟩
  | .hbm, ⟨33, _⟩ => ⟨S16x4096x64, .f32⟩
  | .hbm, ⟨34, _⟩ => ⟨S16x262144, .f32⟩
  | .hbm, ⟨35, _⟩ => ⟨S4x262144, .f32⟩
  | .hbm, ⟨36, _⟩ => ⟨S4x4096x64, .f32⟩
  | .hbm, ⟨37, _⟩ => ⟨S4096x4x64, .f32⟩
  | .local _ .vmem, ⟨0, _⟩ => ⟨S16x8192, .f32⟩
  | .local _ .vmem, ⟨1, _⟩ => ⟨S16x8192, .f32⟩
  | .local _ .vmem, ⟨2, _⟩ => ⟨S1x8192, .f32⟩
  | .local _ .vmem, ⟨3, _⟩ => ⟨S1x8192, .f32⟩
  | .local _ .vmem, ⟨4, _⟩ => ⟨S256x192, .f32⟩
  | .local _ .vmem, ⟨5, _⟩ => ⟨S128x16, .f32⟩
  | .local _ .vmem, ⟨6, _⟩ => ⟨S4x16, .f32⟩
  | .local _ .vmem, ⟨7, _⟩ => ⟨S4x28x8192, .f32⟩
  | .local _ .vmem, ⟨8, _⟩ => ⟨S4x8192, .f32⟩
  | .local _ .vmem, ⟨9, _⟩ => ⟨S4x8192, .f32⟩
  | _, _ => ⟨S4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x28x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x16x64 : Shape := ⟨3, ![4096, 16, 64]⟩
abbrev S4096 : Shape := ⟨1, ![4096]⟩
abbrev S4x16x16x16x4 : Shape := ⟨5, ![4, 16, 16, 16, 4]⟩
abbrev S4x16x16x2 : Shape := ⟨4, ![4, 16, 16, 2]⟩
abbrev S4x16x1 : Shape := ⟨3, ![4, 16, 1]⟩
abbrev S4x4x4x64 : Shape := ⟨4, ![4, 4, 4, 64]⟩
abbrev S4x4x2x64 : Shape := ⟨4, ![4, 4, 2, 64]⟩
abbrev S4x4x1x64 : Shape := ⟨4, ![4, 4, 1, 64]⟩
abbrev S4x4x64x16x16x16 : Shape := ⟨6, ![4, 4, 64, 16, 16, 16]⟩
abbrev S4x4x16x16x16x64 : Shape := ⟨6, ![4, 4, 16, 16, 16, 64]⟩
abbrev S4x4x64x16x16 : Shape := ⟨5, ![4, 4, 64, 16, 16]⟩
abbrev S4x4x16x16x64 : Shape := ⟨5, ![4, 4, 16, 16, 64]⟩
abbrev S4x4x64x16 : Shape := ⟨4, ![4, 4, 64, 16]⟩
abbrev S4x4x16x64 : Shape := ⟨4, ![4, 4, 16, 64]⟩
abbrev S4096x16x1x64 : Shape := ⟨4, ![4096, 16, 1, 64]⟩
abbrev S4096x1x16x64 : Shape := ⟨4, ![4096, 1, 16, 64]⟩
abbrev S4096x16x16x64 : Shape := ⟨4, ![4096, 16, 16, 64]⟩
abbrev S_ : Shape := ⟨0, ![]⟩
abbrev S4096x4x64 : Shape := ⟨3, ![4096, 4, 64]⟩
abbrev S4x1x16x16x16x64 : Shape := ⟨6, ![4, 1, 16, 16, 16, 64]⟩
abbrev S4x16x16x16x64 : Shape := ⟨5, ![4, 16, 16, 16, 64]⟩
abbrev S64x4096x4x16 : Shape := ⟨4, ![64, 4096, 4, 16]⟩
abbrev S4096x4x16x64 : Shape := ⟨4, ![4096, 4, 16, 64]⟩
abbrev S4x1x16x16x64 : Shape := ⟨5, ![4, 1, 16, 16, 64]⟩
abbrev S4x16x16x64 : Shape := ⟨4, ![4, 16, 16, 64]⟩
abbrev S4x1x16x64 : Shape := ⟨4, ![4, 1, 16, 64]⟩
abbrev S4x16x64 : Shape := ⟨3, ![4, 16, 64]⟩
abbrev S1x4x16x64 : Shape := ⟨4, ![1, 4, 16, 64]⟩
abbrev S4096x64x4 : Shape := ⟨3, ![4096, 64, 4]⟩
abbrev S4096x1x1 : Shape := ⟨3, ![4096, 1, 1]⟩

abbrev nBuf : Space → Nat
  | .hbm => 121
  | .vmem => 0
  | .smem => 0
  | _ => 0

abbrev bufTy : (tb : Table) → Fin (tcTables nBuf tb) → BufTy
  | .hbm, ⟨0, _⟩ => ⟨S4096x16x64, .f32⟩
  | .hbm, ⟨1, _⟩ => ⟨S4096, .i32⟩
  | .hbm, ⟨2, _⟩ => ⟨S4x16x16x16x4, .f32⟩
  | .hbm, ⟨3, _⟩ => ⟨S4x16x16x2, .f32⟩
  | .hbm, ⟨4, _⟩ => ⟨S4x16x1, .f32⟩
  | .hbm, ⟨5, _⟩ => ⟨S4x4x4x64, .f32⟩
  | .hbm, ⟨6, _⟩ => ⟨S4x4x2x64, .f32⟩
  | .hbm, ⟨7, _⟩ => ⟨S4x4x1x64, .f32⟩
  | .hbm, ⟨8, _⟩ => ⟨S4x4x64x16x16x16, .f32⟩
  | .hbm, ⟨9, _⟩ => ⟨S4x4x16x16x16x64, .f32⟩
  | .hbm, ⟨10, _⟩ => ⟨S4x4x64x16x16, .f32⟩
  | .hbm, ⟨11, _⟩ => ⟨S4x4x16x16x64, .f32⟩
  | .hbm, ⟨12, _⟩ => ⟨S4x4x64x16, .f32⟩
  | .hbm, ⟨13, _⟩ => ⟨S4x4x16x64, .f32⟩
  | .hbm, ⟨14, _⟩ => ⟨S4096x16x1x64, .f32⟩
  | .hbm, ⟨15, _⟩ => ⟨S4096x1x16x64, .f32⟩
  | .hbm, ⟨16, _⟩ => ⟨S4096x16x16x64, .f32⟩
  | .hbm, ⟨17, _⟩ => ⟨S4096x16x16x64, .f32⟩
  | .hbm, ⟨18, _⟩ => ⟨S4096x16x16x64, .f32⟩
  | .hbm, ⟨19, _⟩ => ⟨S_, .f32⟩
  | .hbm, ⟨20, _⟩ => ⟨S4096x4x64, .f32⟩
  | .hbm, ⟨21, _⟩ => ⟨S4x1x16x16x16x64, .f32⟩
  | .hbm, ⟨22, _⟩ => ⟨S4x16x16x16x64, .f32⟩
  | .hbm, ⟨23, _⟩ => ⟨S64x4096x4x16, .f32⟩
  | .hbm, ⟨24, _⟩ => ⟨S4096x4x16x64, .f32⟩
  | .hbm, ⟨25, _⟩ => ⟨S4x1x16x16x64, .f32⟩
  | .hbm, ⟨26, _⟩ => ⟨S4x16x16x64, .f32⟩
  | .hbm, ⟨27, _⟩ => ⟨S64x4096x4x16, .f32⟩
  | .hbm, ⟨28, _⟩ => ⟨S4096x4x16x64, .f32⟩
  | .hbm, ⟨29, _⟩ => ⟨S4x1x16x64, .f32⟩
  | .hbm, ⟨30, _⟩ => ⟨S4x16x64, .f32⟩
  | .hbm, ⟨31, _⟩ => ⟨S1x4x16x64, .f32⟩
  | .hbm, ⟨32, _⟩ => ⟨S4096x4x16x64, .f32⟩
  | .hbm, ⟨33, _⟩ => ⟨S4096x4x16x64, .f32⟩
  | .hbm, ⟨34, _⟩ => ⟨S4096x4x16x64, .f32⟩
  | .hbm, ⟨35, _⟩ => ⟨S4096x64x4, .f32⟩
  | .hbm, ⟨36, _⟩ => ⟨S4096x4x64, .f32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S4096x1x1, .i1⟩
  | .hbm, ⟨41, _⟩ => ⟨S_, .f32⟩
  | .hbm, ⟨42, _⟩ => ⟨S4096x4x64, .i1⟩
  | .hbm, ⟨43, _⟩ => ⟨S4096x4x64, .f32⟩
  | .hbm, ⟨44, _⟩ => ⟨S4096x4x64, .f32⟩
  | .hbm, ⟨45, _⟩ => ⟨S4096x4x64, .f32⟩
  | .hbm, ⟨46, _⟩ => ⟨S4x1x16x16x16x64, .f32⟩
  | .hbm, ⟨47, _⟩ => ⟨S4x16x16x16x64, .f32⟩
  | .hbm, ⟨48, _⟩ => ⟨S64x4096x4x16, .f32⟩
  | .hbm, ⟨49, _⟩ => ⟨S4096x4x16x64, .f32⟩
  | .hbm, ⟨50, _⟩ => ⟨S4x1x16x16x64, .f32⟩
  | .hbm, ⟨51, _⟩ => ⟨S4x16x16x64, .f32⟩
  | .hbm, ⟨52, _⟩ => ⟨S64x4096x4x16, .f32⟩
  | .hbm, ⟨53, _⟩ => ⟨S4096x4x16x64, .f32⟩
  | .hbm, ⟨54, _⟩ => ⟨S4x1x16x64, .f32⟩
  | .hbm, ⟨55, _⟩ => ⟨S4x16x64, .f32⟩
  | .hbm, ⟨56, _⟩ => ⟨S1x4x16x64, .f32⟩
  | .hbm, ⟨57, _⟩ => ⟨S4096x4x16x64, .f32⟩
  | .hbm, ⟨58, _⟩ => ⟨S4096x4x16x64, .f32⟩
  | .hbm, ⟨59, _⟩ => ⟨S4096x4x16x64, .f32⟩
  | .hbm, ⟨60, _⟩ => ⟨S4096x64x4, .f32⟩
  | .hbm, ⟨61, _⟩ => ⟨S4096x4x64, .f32⟩
  | .hbm, ⟨62, _⟩ => ⟨S_, .i32⟩
  | .hbm, ⟨63, _⟩ => ⟨S4096, .i32⟩
  | .hbm, ⟨64, _⟩ => ⟨S4096, .i1⟩
  | .hbm, ⟨65, _⟩ => ⟨S4096x1x1, .i1⟩
  | .hbm, ⟨66, _⟩ => ⟨S_, .f32⟩
  | .hbm, ⟨67, _⟩ => ⟨S4096x4x64, .i1⟩
  | .hbm, ⟨68, _⟩ => ⟨S4096x4x64, .f32⟩
  | .hbm, ⟨69, _⟩ => ⟨S4096x4x64, .f32⟩
  | .hbm, ⟨70, _⟩ => ⟨S4096x4x64, .f32⟩
  | .hbm, ⟨71, _⟩ => ⟨S4x1x16x16x16x64, .f32⟩
  | .hbm, ⟨72, _⟩ => ⟨S4x16x16x16x64, .f32⟩
  | .hbm, ⟨73, _⟩ => ⟨S64x4096x4x16, .f32⟩
  | .hbm, ⟨74, _⟩ => ⟨S4096x4x16x64, .f32⟩
  | .hbm, ⟨75, _⟩ => ⟨S4x1x16x16x64, .f32⟩
  | .hbm, ⟨76, _⟩ => ⟨S4x16x16x64, .f32⟩
  | .hbm, ⟨77, _⟩ => ⟨S64x4096x4x16, .f32⟩
  | .hbm, ⟨78, _⟩ => ⟨S4096x4x16x64, .f32⟩
  | .hbm, ⟨79, _⟩ => ⟨S4x1x16x64, .f32⟩
  | .hbm, ⟨80, _⟩ => ⟨S4x16x64, .f32⟩
  | .hbm, ⟨81, _⟩ => ⟨S1x4x16x64, .f32⟩
  | .hbm, ⟨82, _⟩ => ⟨S4096x4x16x64, .f32⟩
  | .hbm, ⟨83, _⟩ => ⟨S4096x4x16x64, .f32⟩
  | .hbm, ⟨84, _⟩ => ⟨S4096x4x16x64, .f32⟩
  | .hbm, ⟨85, _⟩ => ⟨S4096x64x4, .f32⟩
  | .hbm, ⟨86, _⟩ => ⟨S4096x4x64, .f32⟩
  | .hbm, ⟨87, _⟩ => ⟨S_, .i32⟩
  | .hbm, ⟨88, _⟩ => ⟨S4096, .i32⟩
  | .hbm, ⟨89, _⟩ => ⟨S4096, .i1⟩
  | .hbm, ⟨90, _⟩ => ⟨S4096x1x1, .i1⟩
  | .hbm, ⟨91, _⟩ => ⟨S_, .f32⟩
  | .hbm, ⟨92, _⟩ => ⟨S4096x4x64, .i1⟩
  | .hbm, ⟨93, _⟩ => ⟨S4096x4x64, .f32⟩
  | .hbm, ⟨94, _⟩ => ⟨S4096x4x64, .f32⟩
  | .hbm, ⟨95, _⟩ => ⟨S4096x4x64, .f32⟩
  | .hbm, ⟨96, _⟩ => ⟨S4x1x16x16x16x64, .f32⟩
  | .hbm, ⟨97, _⟩ => ⟨S4x16x16x16x64, .f32⟩
  | .hbm, ⟨98, _⟩ => ⟨S64x4096x4x16, .f32⟩
  | .hbm, ⟨99, _⟩ => ⟨S4096x4x16x64, .f32⟩
  | .hbm, ⟨100, _⟩ => ⟨S4x1x16x16x64, .f32⟩
  | .hbm, ⟨101, _⟩ => ⟨S4x16x16x64, .f32⟩
  | .hbm, ⟨102, _⟩ => ⟨S64x4096x4x16, .f32⟩
  | .hbm, ⟨103, _⟩ => ⟨S4096x4x16x64, .f32⟩
  | .hbm, ⟨104, _⟩ => ⟨S4x1x16x64, .f32⟩
  | .hbm, ⟨105, _⟩ => ⟨S4x16x64, .f32⟩
  | .hbm, ⟨106, _⟩ => ⟨S1x4x16x64, .f32⟩
  | .hbm, ⟨107, _⟩ => ⟨S4096x4x16x64, .f32⟩
  | .hbm, ⟨108, _⟩ => ⟨S4096x4x16x64, .f32⟩
  | .hbm, ⟨109, _⟩ => ⟨S4096x4x16x64, .f32⟩
  | .hbm, ⟨110, _⟩ => ⟨S4096x64x4, .f32⟩
  | .hbm, ⟨111, _⟩ => ⟨S4096x4x64, .f32⟩
  | .hbm, ⟨112, _⟩ => ⟨S_, .i32⟩
  | .hbm, ⟨113, _⟩ => ⟨S4096, .i32⟩
  | .hbm, ⟨114, _⟩ => ⟨S4096, .i1⟩
  | .hbm, ⟨115, _⟩ => ⟨S4096x1x1, .i1⟩
  | .hbm, ⟨116, _⟩ => ⟨S_, .f32⟩
  | .hbm, ⟨117, _⟩ => ⟨S4096x4x64, .i1⟩
  | .hbm, ⟨118, _⟩ => ⟨S4096x4x64, .f32⟩
  | .hbm, ⟨119, _⟩ => ⟨S4096x4x64, .f32⟩
  | .hbm, ⟨120, _⟩ => ⟨S4096x4x64, .f32⟩
  | _, _ => ⟨S4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_call0_v0 : Ref sig .tc := ⟨.hbm, 42, rfl⟩
abbrev main_call0_v1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_1 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_2 : Ref sig .tc := ⟨.hbm, 66, rfl⟩
abbrev main_call1_v0 : Ref sig .tc := ⟨.hbm, 67, rfl⟩
abbrev main_call1_v1 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_c_3 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_4 : Ref sig .tc := ⟨.hbm, 91, rfl⟩
abbrev main_call2_v0 : Ref sig .tc := ⟨.hbm, 92, rfl⟩
abbrev main_call2_v1 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_c_5 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_6 : Ref sig .tc := ⟨.hbm, 116, rfl⟩
abbrev main_call3_v0 : Ref sig .tc := ⟨.hbm, 117, rfl⟩
abbrev main_call3_v1 : Ref sig .tc := ⟨.hbm, 118, rfl⟩
abbrev main_v94 : Ref sig .tc := ⟨.hbm, 119, rfl⟩
abbrev main_v95 : Ref sig .tc := ⟨.hbm, 120, rfl⟩

abbrev nD : Nat := 1
abbrev τ : Topo := Topo.v7x

variable {F : FTy → Type} [FloatOps F]
-- ==== Proof.Layout.lean ====
module

public import Idealize.ShloMosaic.Lib.Pointwise

@[expose] public section

/-!
# Row numbers of the kernel's packed matrices

The kernel lays the three coupling tensors out as matrices. A row of the cubic matrix is named by an output component
`a`, a channel `k` and a component `i`; a row of the quadratic matrix likewise with two channels; a row of the weight
matrix by an output component and one of seven channels (four cubic, two quadratic, one linear). A column of the cubic
matrix is a pair of components, the pairs with both in the upper half last.
-/

namespace Cert.KernelIdeal

/-- The row of the cubic matrix for output component `a`, channel `k`, component `i`. -/
def row3 (a k : Fin 4) (i : Fin 16) : Fin 256 := ⟨(a.val * 4 + k.val) * 16 + i.val, by omega⟩

/-- The row of the quadratic matrix for output component `a`, channel `k`, component `i`. -/
def row2 (a : Fin 4) (k : Fin 2) (i : Fin 16) : Fin 128 := ⟨(a.val * 2 + k.val) * 16 + i.val, by omega⟩

/-- The row of the weight matrix for output component `a` and channel `q`. -/
def rowW (a : Fin 4) (q : Fin 7) : Fin 28 := ⟨a.val * 7 + q.val, by omega⟩

/-- A component of the lower half. -/
def lo (j : Fin 8) : Fin 16 := ⟨j.val, by omega⟩

/-- A component of the upper half. -/
def hi (j : Fin 8) : Fin 16 := ⟨8 + j.val, by omega⟩

/-- The column of the cubic matrix for a pair whose first component is in the lower half. -/
def colLo (j : Fin 8) (i : Fin 16) : Fin 192 := ⟨16 * j.val + i.val, by omega⟩

/-- The column of the cubic matrix for a pair with both components in the upper half. -/
def colHi (j i : Fin 8) : Fin 192 := ⟨128 + 8 * j.val + i.val, by omega⟩

/-- The node that flattened position `p` (node-major, 64 channels per node) belongs to. -/
def node (p : Fin 262144) : Fin 4096 := ⟨p.val / 64, by omega⟩

/-- The channel of flattened position `p`. -/
def chan (p : Fin 262144) : Fin 64 := ⟨p.val % 64, by omega⟩

end Cert.KernelIdeal
-- ==== Proof.Algebra.lean ====
module

public import proofs.«01_k».proof.Proof.Layout
public import Idealize.ShloMosaic.Lib.Pointwise

@[expose] public section

/-!
  # The algebra of one output element

  For one node, one channel and one output component the kernel and the reference evaluate the same polynomial of the
  node's sixteen components. The reference sums over every ordered pair of components; the kernel keeps 192 of the
  256 ordered pairs, and a pair that stands for its own mirror image carries both coefficients. This module states both
  polynomials over any carrier, proves them equal over the reals, and carries the equality to the extended reals for
  arguments that are real.
-/

noncomputable section

namespace Cert.Algebra

open Cert.KernelIdeal

/-! ## Splitting finite sums -/

/-- A sum over the sixteen components, split into the lower and the upper half. -/
theorem sum_components {R : Type} [AddCommMonoid R] (f : Fin 16 → R) :
    ∑ i, f i = (∑ j : Fin 8, f (lo j)) + ∑ j : Fin 8, f (hi j) := by
  simp only [Fin.sum_univ_succ, Fin.sum_univ_zero, Finset.univ_unique, Finset.sum_singleton, add_zero, add_assoc]
  rfl

/-- A sum over the 192 kept pairs, split into the pairs with a lower first component and the rest. -/
theorem sum_pairs {R : Type} [AddCommMonoid R] (f : Fin 192 → R) :
    ∑ s, f s = (∑ j : Fin 8, ∑ i : Fin 16, f (colLo j i)) + ∑ j : Fin 8, ∑ i : Fin 8, f (colHi j i) := by
  have h1 : ∀ g : Fin 128 → R, ∑ s, g s = ∑ j : Fin 8, ∑ i : Fin 16, g ⟨16 * j.val + i.val, by omega⟩ := by
    intro g
    rw [← Finset.sum_product', Finset.univ_product_univ,
      ← Equiv.sum_comp (finProdFinEquiv (m := 8) (n := 16)) g]
    refine Finset.sum_congr rfl fun p _ => congrArg g (Fin.ext ?_)
    simp only [finProdFinEquiv_apply_val]
    omega
  have h2 : ∀ g : Fin 64 → R, ∑ s, g s = ∑ j : Fin 8, ∑ i : Fin 8, g ⟨8 * j.val + i.val, by omega⟩ := by
    intro g
    rw [← Finset.sum_product', Finset.univ_product_univ,
      ← Equiv.sum_comp (finProdFinEquiv (m := 8) (n := 8)) g]
    refine Finset.sum_congr rfl fun p _ => congrArg g (Fin.ext ?_)
    simp only [finProdFinEquiv_apply_val]
    omega
  have h0 : ∑ s, f s = (∑ s : Fin 128, f ⟨s.val, by omega⟩) + ∑ s : Fin 64, f ⟨128 + s.val, by omega⟩ :=
    Fin.sum_univ_add (a := 128) (b := 64) f
  rw [h0, h1, h2]
  rfl

/-- The real sum, read among the extended reals, is the sum of the summands read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The two polynomials -/

section Polynomials

variable {R : Type} [AddCommMonoid R] [Mul R]

/-- The quadratic form over the kept pairs: `mask` says which pairs carry the mirrored coefficient too. -/
def folded (mask u : Fin 16 → Fin 16 → R) (x : Fin 16 → R) : R :=
  (∑ j : Fin 8, ∑ i : Fin 16, (u (lo j) i + u i (lo j) * mask (lo j) i) * (x (lo j) * x i))
    + ∑ j : Fin 8, ∑ i : Fin 8, (u (hi j) (hi i) + u (hi i) (hi j) * mask (hi j) (hi i)) * (x (hi j) * x (hi i))

/-- One output element as the kernel arranges it: weights outside each contraction. -/
def kernelPoly (mask : Fin 16 → Fin 16 → R) (x : Fin 16 → R) (u3 : Fin 16 → Fin 16 → Fin 16 → Fin 4 → R)
    (u2 : Fin 16 → Fin 16 → Fin 2 → R) (u1 : Fin 16 → Fin 1 → R) (w3 : Fin 4 → R) (w2 : Fin 2 → R) (w1 : Fin 1 → R) :
    R :=
  (∑ i : Fin 16,
    (folded mask (fun j l => u3 i j l 0) x * w3 0 + folded mask (fun j l => u3 i j l 1) x * w3 1
        + folded mask (fun j l => u3 i j l 2) x * w3 2 + folded mask (fun j l => u3 i j l 3) x * w3 3
        + (∑ j : Fin 16, u2 i j 0 * x j) * w2 0 + (∑ j : Fin 16, u2 i j 1 * x j) * w2 1) * x i)
    + (∑ i : Fin 16, u1 i 0 * x i) * w1 0

/-- One output element as the reference arranges it: weights inside, Horner style in the components. -/
def referencePoly (x : Fin 16 → R) (u3 : Fin 16 → Fin 16 → Fin 16 → Fin 4 → R)
    (u2 : Fin 16 → Fin 16 → Fin 2 → R) (u1 : Fin 16 → Fin 1 → R) (w3 : Fin 4 → R) (w2 : Fin 2 → R) (w1 : Fin 1 → R) :
    R :=
  ∑ i : Fin 16, x i * ((∑ k : Fin 1, w1 k * u1 i k + ∑ j : Fin 16, x j * ∑ k : Fin 2, w2 k * u2 i j k)
    + ∑ j : Fin 16, ∑ l : Fin 16, x j * x l * ∑ k : Fin 4, w3 k * u3 i j l k)

end Polynomials

/-- The pairs that stand for their mirror images: the first component lower, the second upper. -/
def mirror (R : Type) [Zero R] [One R] (j l : Fin 16) : R := if j.val < 8 ∧ 8 ≤ l.val then 1 else 0

/-! ## Over the reals -/

/-- The folded quadratic form is the whole one. -/
theorem folded_real (u : Fin 16 → Fin 16 → ℝ) (x : Fin 16 → ℝ) :
    folded (mirror ℝ) u x = ∑ j : Fin 16, ∑ l : Fin 16, u j l * (x j * x l) := by
  have hll : ∀ j l : Fin 8, mirror ℝ (lo j) (lo l) = 0 := fun j l => if_neg (by simp only [lo]; omega)
  have hlh : ∀ j l : Fin 8, mirror ℝ (lo j) (hi l) = 1 := fun j l => if_pos (by simp only [lo, hi]; omega)
  have hhh : ∀ j l : Fin 8, mirror ℝ (hi j) (hi l) = 0 := fun j l => if_neg (by simp only [hi]; omega)
  have hs : ∑ j : Fin 8, ∑ l : Fin 8, u (hi l) (lo j) * (x (lo j) * x (hi l))
      = ∑ j : Fin 8, ∑ l : Fin 8, u (hi j) (lo l) * (x (hi j) * x (lo l)) := by
    rw [Finset.sum_comm]
    exact Finset.sum_congr rfl fun j _ => Finset.sum_congr rfl fun l _ => by rw [mul_comm (x (lo l))]
  simp only [folded, sum_components, hll, hlh, hhh, mul_zero, mul_one, add_zero, add_mul, Finset.sum_add_distrib,
    zero_mul, Finset.sum_const_zero]
  rw [hs]
  ring

/-- Over the reals the two polynomials are equal. -/
theorem kernelPoly_real (x : Fin 16 → ℝ) (u3 : Fin 16 → Fin 16 → Fin 16 → Fin 4 → ℝ)
    (u2 : Fin 16 → Fin 16 → Fin 2 → ℝ) (u1 : Fin 16 → Fin 1 → ℝ) (w3 : Fin 4 → ℝ) (w2 : Fin 2 → ℝ) (w1 : Fin 1 → ℝ) :
    kernelPoly (mirror ℝ) x u3 u2 u1 w3 w2 w1 = referencePoly x u3 u2 u1 w3 w2 w1 := by
  unfold kernelPoly referencePoly
  rw [Finset.sum_mul, ← Finset.sum_add_distrib]
  refine Finset.sum_congr rfl fun i _ => ?_
  have h3 : ∑ j : Fin 16, ∑ l : Fin 16, x j * x l * ∑ k : Fin 4, w3 k * u3 i j l k
      = (∑ j, ∑ l, u3 i j l 0 * (x j * x l)) * w3 0 + (∑ j, ∑ l, u3 i j l 1 * (x j * x l)) * w3 1
        + (∑ j, ∑ l, u3 i j l 2 * (x j * x l)) * w3 2 + (∑ j, ∑ l, u3 i j l 3 * (x j * x l)) * w3 3 := by
    simp only [Finset.sum_mul, ← Finset.sum_add_distrib]
    refine Finset.sum_congr rfl fun j _ => Finset.sum_congr rfl fun l _ => ?_
    rw [Fin.sum_univ_four]
    ring
  have h2 : ∑ j : Fin 16, x j * ∑ k : Fin 2, w2 k * u2 i j k
      = (∑ j, u2 i j 0 * x j) * w2 0 + (∑ j, u2 i j 1 * x j) * w2 1 := by
    simp only [Finset.sum_mul, ← Finset.sum_add_distrib]
    refine Finset.sum_congr rfl fun j _ => ?_
    rw [Fin.sum_univ_two]
    ring
  rw [h3, h2, Fin.sum_univ_one]
  simp only [folded_real]
  ring

/-! ## Carried to the extended reals -/

/-- The kernel's polynomial at real arguments is real. -/
theorem kernelPoly_coe (x : Fin 16 → ℝ) (u3 : Fin 16 → Fin 16 → Fin 16 → Fin 4 → ℝ)
    (u2 : Fin 16 → Fin 16 → Fin 2 → ℝ) (u1 : Fin 16 → Fin 1 → ℝ) (w3 : Fin 4 → ℝ) (w2 : Fin 2 → ℝ) (w1 : Fin 1 → ℝ) :
    kernelPoly (mirror EReal) (fun i => (x i : EReal)) (fun i j l k => (u3 i j l k : EReal))
        (fun i j k => (u2 i j k : EReal)) (fun i k => (u1 i k : EReal)) (fun k => (w3 k : EReal))
        (fun k => (w2 k : EReal)) (fun k => (w1 k : EReal))
      = ((kernelPoly (mirror ℝ) x u3 u2 u1 w3 w2 w1 : ℝ) : EReal) := by
  have hm : ∀ j l, mirror EReal j l = ((mirror ℝ j l : ℝ) : EReal) := by
    intro j l
    unfold mirror
    split <;> simp
  simp only [kernelPoly, folded, hm, coe_sum, EReal.coe_add, EReal.coe_mul]

/-- The reference's polynomial at real arguments is real. -/
theorem referencePoly_coe (x : Fin 16 → ℝ) (u3 : Fin 16 → Fin 16 → Fin 16 → Fin 4 → ℝ)
    (u2 : Fin 16 → Fin 16 → Fin 2 → ℝ) (u1 : Fin 16 → Fin 1 → ℝ) (w3 : Fin 4 → ℝ) (w2 : Fin 2 → ℝ) (w1 : Fin 1 → ℝ) :
    referencePoly (fun i => (x i : EReal)) (fun i j l k => (u3 i j l k : EReal))
        (fun i j k => (u2 i j k : EReal)) (fun i k => (u1 i k : EReal)) (fun k => (w3 k : EReal))
        (fun k => (w2 k : EReal)) (fun k => (w1 k : EReal))
      = ((referencePoly x u3 u2 u1 w3 w2 w1 : ℝ) : EReal) := by
  simp only [referencePoly, coe_sum, EReal.coe_add, EReal.coe_mul]

/-- Over the extended reals the two polynomials are equal where every argument is real. -/
theorem poly_eq (x : Fin 16 → EReal) (u3 : Fin 16 → Fin 16 → Fin 16 → Fin 4 → EReal)
    (u2 : Fin 16 → Fin 16 → Fin 2 → EReal) (u1 : Fin 16 → Fin 1 → EReal) (w3 : Fin 4 → EReal) (w2 : Fin 2 → EReal)
    (w1 : Fin 1 → EReal) (hx : ∀ i, ∃ r : ℝ, x i = r) (h3 : ∀ i j l k, ∃ r : ℝ, u3 i j l k = r)
    (h2 : ∀ i j k, ∃ r : ℝ, u2 i j k = r) (h1 : ∀ i k, ∃ r : ℝ, u1 i k = r) (hw3 : ∀ k, ∃ r : ℝ, w3 k = r)
    (hw2 : ∀ k, ∃ r : ℝ, w2 k = r) (hw1 : ∀ k, ∃ r : ℝ, w1 k = r) :
    kernelPoly (mirror EReal) x u3 u2 u1 w3 w2 w1 = referencePoly x u3 u2 u1 w3 w2 w1 := by
  choose x' hx using hx
  choose u3' h3 using h3
  choose u2' h2 using h2
  choose u1' h1 using h1
  choose w3' hw3 using hw3
  choose w2' hw2 using hw2
  choose w1' hw1 using hw1
  obtain rfl : x = fun i => (x' i : EReal) := funext hx
  obtain rfl : u3 = fun i j l k => (u3' i j l k : EReal) := funext fun i => funext fun j => funext fun l => funext (h3 i j l)
  obtain rfl : u2 = fun i j k => (u2' i j k : EReal) := funext fun i => funext fun j => funext (h2 i j)
  obtain rfl : u1 = fun i k => (u1' i k : EReal) := funext fun i => funext (h1 i)
  obtain rfl : w3 = fun k => (w3' k : EReal) := funext hw3
  obtain rfl : w2 = fun k => (w2' k : EReal) := funext hw2
  obtain rfl : w1 = fun k => (w1' k : EReal) := funext hw1
  rw [kernelPoly_coe, kernelPoly_real, referencePoly_coe]

/-- With every weight zero the kernel's polynomial is zero, whatever the other arguments. -/
theorem kernelPoly_zero (mask : Fin 16 → Fin 16 → EReal) (x : Fin 16 → EReal)
    (u3 : Fin 16 → Fin 16 → Fin 16 → Fin 4 → EReal) (u2 : Fin 16 → Fin 16 → Fin 2 → EReal) (u1 : Fin 16 → Fin 1 → EReal) :
    kernelPoly mask x u3 u2 u1 (fun _ => 0) (fun _ => 0) (fun _ => 0) = 0 := by
  simp only [kernelPoly, mul_zero, add_zero, zero_mul, Finset.sum_const_zero]

end Cert.Algebra

end

end
-- ==== Proof.Body.lean ====
module

public import proofs.«01_k».proof.Proof.Layout
public import proofs.«01_k».proof.Proof.Gen.KernelIdeal.Frame
public import Idealize.ShloMosaic.Lib.Pointwise
public import Idealize.ShloMosaic.Lib.Pipeline.Value

@[expose] public section

set_option maxRecDepth 16384

/-!
# One grid point of the kernel, read at an index

`body_apply` states what the body leaves in its output block at output component `a` and lane `l`, as sums over the
blocks it read. The cubic matrix is contracted with the stacked products of components (`pairs`), which hold each
product of a lower-half component with any component, then each product of two upper-half components.
-/

noncomputable section

namespace Cert.KernelIdeal.Body

open Idealize.ShloMosaic Idealize.ShloMosaic.TcCoe Idealize.SL.Sem
open Cert.KernelIdeal Cert.KernelIdeal.Gen

/-- The zero offset of a whole-block store. -/
theorem zero_offset : (![0, 0] : Fin 2 → Nat) = fun _ => 0 := funext fun a => by fin_cases a <;> rfl

/-- What the body stores for output component `a` at lane `l`, from the products it has formed: the cubic and quadratic
    rows weighted, contracted with the input components, and the weighted linear row added. -/
def outVal (xb : Vec Ideal S16x8192 .f32) (q3 : Vec Ideal S256x8192 .f32) (q2 : Vec Ideal S128x8192 .f32)
    (q1 : Vec Ideal S4x8192 .f32) (w : Vec Ideal S28x8192 .f32) (a : Fin 4) (l : Fin 8192) : EReal :=
  (∑ i : Fin 16, (q3 (ix2 (row3 a 0 i) l) * w (ix2 (rowW a 0) l) + q3 (ix2 (row3 a 1 i) l) * w (ix2 (rowW a 1) l)
      + q3 (ix2 (row3 a 2 i) l) * w (ix2 (rowW a 2) l) + q3 (ix2 (row3 a 3 i) l) * w (ix2 (rowW a 3) l)
      + q2 (ix2 (row2 a 0 i) l) * w (ix2 (rowW a 4) l) + q2 (ix2 (row2 a 1 i) l) * w (ix2 (rowW a 5) l))
      * xb (ix2 i l)) + q1 (ix2 a l) * w (ix2 (rowW a 6) l)

set_option maxHeartbeats 4000000 in
/-- The stored block, read at an output component and a lane: the four rows are stacked, each the same arithmetic. -/
theorem rows_apply (xb : Vec Ideal S16x8192 .f32) (q3 : Vec Ideal S256x8192 .f32) (q2 : Vec Ideal S128x8192 .f32)
    (q1 : Vec Ideal S4x8192 .f32) (te : Vec Ideal S1x8192 .f32) (p38 p39 p40 w : Vec Ideal S28x8192 .f32)
    (v : Vec Ideal S1x28x8192 .f32) (hw : k0_pay27 te p38 p39 p40 v = w) (a : Fin 4) (l : Fin 8192) :
    k0_pay1 (F := Ideal) xb q3 q2 q1 w (k0_pay28 xb q3 q2 q1 te p38 p39 p40 v)
      (k0_pay31 xb q3 q2 q1 w (k0_pay29 q3 te p38 p39 p40 v) (k0_pay30 q3 te p38 p39 p40 v)) (k0_pay32 xb q3 q2 w) (ix2 a l)
    = outVal xb q3 q2 q1 w a l := by
  unfold k0_pay1 k0_pay28 k0_pay29 k0_pay30 k0_pay31 k0_pay32
  simp only [hw]
  fin_cases a
  · dsimp only [Fin.reduceFinMk, Fin.zero_eta, Fin.isValue, Fin.mk_one]
    pointwise []
    simp only [outVal, row3, row2, rowW]
    simp
  · dsimp only [Fin.reduceFinMk, Fin.zero_eta, Fin.isValue, Fin.mk_one]
    pointwise []
    rfl
  · dsimp only [Fin.reduceFinMk, Fin.zero_eta, Fin.isValue, Fin.mk_one]
    pointwise []
    rfl
  · dsimp only [Fin.reduceFinMk, Fin.zero_eta, Fin.isValue, Fin.mk_one]
    pointwise []
    rfl

variable (x0 : Vec Ideal S16x8192 .f32) (x1 : Vec Ideal S1x8192 .f32) (x2 : Vec Ideal S256x192 .f32)
  (x3 : Vec Ideal S128x16 .f32) (x4 : Vec Ideal S4x16 .f32) (x5 : Vec Ideal S4x28x8192 .f32)

/-- A stack of row blocks, read at a row of piece `k`: that piece at the row counted from its first. -/
theorem rows_piece {n : Nat} (xs : List ((s : Shape) × (s.Idx → EReal)))
    (h : Shape.Concatenates (xs.map (·.1)) S192x8192 0) (k : Nat) (hk : k < xs.length)
    (f : Vec Ideal ⟨2, ![n, 8192]⟩ .f32) (hf : xs[k] = ⟨⟨2, ![n, 8192]⟩, f⟩) (pre : Nat)
    (hpre : (((xs.take k).map (·.1)).map fun s => if h : s.rank = S192x8192.rank then
      s.size ((0 : Fin S192x8192.rank).cast h.symm) else 0).sum = pre)
    (r : Fin 192) (i : Fin n) (hi : pre + i.val = r.val) (l : Fin 8192) :
    concatenate S192x8192 0 xs h (ix2 r l) = f (ix2 i l) :=
  concatenate_apply_piece (0 : Fin S192x8192.rank) xs h (ix2 r l) k hk ⟨2, ![n, 8192]⟩ f hf rfl pre hpre (ix2 i l)
    (fun b hb => by fin_cases b; exact absurd rfl hb; rfl) hi

/-- The stacked products of components the cubic matrix is contracted with. -/
def pairs : Vec Ideal S192x8192 .f32 :=
  concatenate S192x8192 0 [⟨S16x8192, k0_pay3 (View.ld x0 r0_0)⟩, ⟨S16x8192, k0_pay4 (View.ld x0 r0_0)⟩,
    ⟨S16x8192, k0_pay5 (View.ld x0 r0_0)⟩, ⟨S16x8192, k0_pay6 (View.ld x0 r0_0)⟩,
    ⟨S16x8192, k0_pay7 (View.ld x0 r0_0)⟩, ⟨S16x8192, k0_pay8 (View.ld x0 r0_0)⟩,
    ⟨S16x8192, k0_pay9 (View.ld x0 r0_0)⟩, ⟨S16x8192, k0_pay10 (View.ld x0 r0_0)⟩,
    ⟨S8x8192, k0_pay11 (View.ld x0 r0_0)⟩, ⟨S8x8192, k0_pay12 (View.ld x0 r0_0)⟩,
    ⟨S8x8192, k0_pay13 (View.ld x0 r0_0)⟩, ⟨S8x8192, k0_pay14 (View.ld x0 r0_0)⟩,
    ⟨S8x8192, k0_pay15 (View.ld x0 r0_0)⟩, ⟨S8x8192, k0_pay16 (View.ld x0 r0_0)⟩,
    ⟨S8x8192, k0_pay17 (View.ld x0 r0_0)⟩,
    ⟨S8x8192, mulf (k0_pay19 (View.ld x0 r0_0)) (k0_pay18 (View.ld x0 r0_0))⟩]
    concatenates_S16x8192_S16x8192_S16x8192_S16x8192_S16x8192_S16x8192_S16x8192_S16x8192_S8x8192_S8x8192_S8x8192_S8x8192_S8x8192_S8x8192_S8x8192_S8x8192_S192x8192_d0

set_option maxHeartbeats 2000000 in
/-- The product of a lower-half component with any component. -/
theorem pairs_lo (j : Fin 8) (i : Fin 16) (l : Fin 8192) :
    pairs x0 (ix2 (colLo j i) l) = x0 (ix2 (lo j) l) * x0 (ix2 i l) := by
  unfold pairs
  fin_cases j
  · refine (rows_piece (n := 16) _ _ 0 (Nat.le_of_ble_eq_true rfl) _ rfl 0 rfl _ i (by simp [colLo]) l).trans ?_
    unfold_payloads
    pointwise []
    try rfl
  · refine (rows_piece (n := 16) _ _ 1 (Nat.le_of_ble_eq_true rfl) _ rfl 16 rfl _ i (by simp [colLo]) l).trans ?_
    unfold_payloads
    pointwise []
    try rfl
  · refine (rows_piece (n := 16) _ _ 2 (Nat.le_of_ble_eq_true rfl) _ rfl 32 rfl _ i (by simp [colLo]) l).trans ?_
    unfold_payloads
    pointwise []
    try rfl
  · refine (rows_piece (n := 16) _ _ 3 (Nat.le_of_ble_eq_true rfl) _ rfl 48 rfl _ i (by simp [colLo]) l).trans ?_
    unfold_payloads
    pointwise []
    try rfl
  · refine (rows_piece (n := 16) _ _ 4 (Nat.le_of_ble_eq_true rfl) _ rfl 64 rfl _ i (by simp [colLo]) l).trans ?_
    unfold_payloads
    pointwise []
    try rfl
  · refine (rows_piece (n := 16) _ _ 5 (Nat.le_of_ble_eq_true rfl) _ rfl 80 rfl _ i (by simp [colLo]) l).trans ?_
    unfold_payloads
    pointwise []
    try rfl
  · refine (rows_piece (n := 16) _ _ 6 (Nat.le_of_ble_eq_true rfl) _ rfl 96 rfl _ i (by simp [colLo]) l).trans ?_
    unfold_payloads
    pointwise []
    try rfl
  · refine (rows_piece (n := 16) _ _ 7 (Nat.le_of_ble_eq_true rfl) _ rfl 112 rfl _ i (by simp [colLo]) l).trans ?_
    unfold_payloads
    pointwise []
    try rfl

set_option maxHeartbeats 2000000 in
/-- The product of two upper-half components. -/
theorem pairs_hi (j i : Fin 8) (l : Fin 8192) :
    pairs x0 (ix2 (colHi j i) l) = x0 (ix2 (hi j) l) * x0 (ix2 (hi i) l) := by
  unfold pairs
  fin_cases j
  · refine (rows_piece (n := 8) _ _ 8 (Nat.le_of_ble_eq_true rfl) _ rfl 128 rfl _ i (by simp [colHi]) l).trans ?_
    unfold_payloads
    pointwise []
    try rfl
  · refine (rows_piece (n := 8) _ _ 9 (Nat.le_of_ble_eq_true rfl) _ rfl 136 rfl _ i (by simp [colHi]) l).trans ?_
    unfold_payloads
    pointwise []
    try rfl
  · refine (rows_piece (n := 8) _ _ 10 (Nat.le_of_ble_eq_true rfl) _ rfl 144 rfl _ i (by simp [colHi]) l).trans ?_
    unfold_payloads
    pointwise []
    try rfl
  · refine (rows_piece (n := 8) _ _ 11 (Nat.le_of_ble_eq_true rfl) _ rfl 152 rfl _ i (by simp [colHi]) l).trans ?_
    unfold_payloads
    pointwise []
    try rfl
  · refine (rows_piece (n := 8) _ _ 12 (Nat.le_of_ble_eq_true rfl) _ rfl 160 rfl _ i (by simp [colHi]) l).trans ?_
    unfold_payloads
    pointwise []
    try rfl
  · refine (rows_piece (n := 8) _ _ 13 (Nat.le_of_ble_eq_true rfl) _ rfl 168 rfl _ i (by simp [colHi]) l).trans ?_
    unfold_payloads
    pointwise []
    try rfl
  · refine (rows_piece (n := 8) _ _ 14 (Nat.le_of_ble_eq_true rfl) _ rfl 176 rfl _ i (by simp [colHi]) l).trans ?_
    unfold_payloads
    pointwise []
    try rfl
  · refine (rows_piece (n := 8) _ _ 15 (Nat.le_of_ble_eq_true rfl) _ rfl 184 rfl _ i (by simp [colHi]) l).trans ?_
    unfold_payloads
    pointwise []
    try rfl

/-- The input block as the body holds it. -/
theorem xb_apply (i : Fin 16) (l : Fin 8192) : k0_pay33 (F := Ideal) x0 x1 x2 x3 x4 x5 (ix2 i l) = x0 (ix2 i l) := by
  unfold k0_pay33
  unfold_payloads
  pointwise []

/-- The cubic product: the cubic matrix contracted with the stacked products. -/
theorem q3_apply (r : Fin 256) (l : Fin 8192) :
    k0_pay34 (F := Ideal) x0 x1 x2 x3 x4 x5 (ix2 r l) = ∑ s : Fin 192, x2 (ix2 r s) * pairs x0 (ix2 s l) := by
  unfold k0_pay34 k0_pay20
  change matmul dot_S256x192_S192x8192_S256x8192_1_0_0_1_n_n none
    (shapeCast S256x192 (View.ld x2 r0_1) shapeCasts_S256x192_S256x192 : FVec Ideal S256x192 .f32) (pairs x0)
    (constant S256x8192 .f32 0x00000000#32) (ix2 r l) = _
  generalize pairs x0 = Y
  pointwise []

/-- The quadratic product: the quadratic matrix contracted with the input components. -/
theorem q2_apply (r : Fin 128) (l : Fin 8192) :
    k0_pay35 (F := Ideal) x0 x1 x2 x3 x4 x5 (ix2 r l) = ∑ s : Fin 16, x3 (ix2 r s) * x0 (ix2 s l) := by
  unfold k0_pay35
  unfold_payloads
  pointwise []

/-- The linear product: the linear matrix contracted with the input components. -/
theorem q1_apply (a : Fin 4) (l : Fin 8192) :
    k0_pay36 (F := Ideal) x0 x1 x2 x3 x4 x5 (ix2 a l) = ∑ s : Fin 16, x4 (ix2 a s) * x0 (ix2 s l) := by
  unfold k0_pay36
  unfold_payloads
  pointwise []

/-- One where the node's type, as a float, is the given one, and zero elsewhere. -/
def isType (t e : EReal) : EReal :=
  FloatOps.sitofp (F := Ideal) .f32 (BitVec.setWidth 32 (BitVec.ofBool (decide (t = e))))

/-- The selected weights: over the four types, the type's weights times its indicator. -/
theorem w_apply (q : Fin 28) (l : Fin 8192) :
    k0_pay41 (F := Ideal) x0 x1 x2 x3 x4 x5 (ix2 q l)
      = x5 (ix3 0 q l) * isType (x1 (ix2 0 l)) 0 + x5 (ix3 1 q l) * isType (x1 (ix2 0 l)) 1
        + x5 (ix3 2 q l) * isType (x1 (ix2 0 l)) (Ideal.ofBits .f32 0x40000000#32)
        + x5 (ix3 3 q l) * isType (x1 (ix2 0 l)) (Ideal.ofBits .f32 0x40400000#32) := by
  unfold k0_pay41 k0_pay37 k0_pay38 k0_pay39 k0_pay40
  unfold_payloads
  pointwise [isType]

/-- The selected weights as the body forms them from the pieces it keeps. -/
theorem weights_fold : k0_pay27 (k0_pay37 x0 x1 x2 x3 x4 x5) (k0_pay38 x0 x1 x2 x3 x4 x5) (k0_pay39 x0 x1 x2 x3 x4 x5)
    (k0_pay40 x0 x1 x2 x3 x4 x5) (View.ld x5 r0_8) = k0_pay41 (F := Ideal) x0 x1 x2 x3 x4 x5 := by
  unfold k0_pay41
  rfl

/-- What the body leaves in its output block. -/
theorem body_apply (a : Fin 4) (l : Fin 8192) :
    out0_6 (F := Ideal) x0 x1 x2 x3 x4 x5 (ix2 a l)
      = outVal (k0_pay33 x0 x1 x2 x3 x4 x5) (k0_pay34 x0 x1 x2 x3 x4 x5) (k0_pay35 x0 x1 x2 x3 x4 x5)
          (k0_pay36 x0 x1 x2 x3 x4 x5) (k0_pay41 x0 x1 x2 x3 x4 x5) a l := by
  unfold out0_6
  rw [View.canon_unit_zero (S := S4x8192) zero_offset]
  exact rows_apply (k0_pay33 x0 x1 x2 x3 x4 x5) (k0_pay34 x0 x1 x2 x3 x4 x5) (k0_pay35 x0 x1 x2 x3 x4 x5) (k0_pay36 x0 x1 x2 x3 x4 x5) (k0_pay37 x0 x1 x2 x3 x4 x5)
    (k0_pay38 x0 x1 x2 x3 x4 x5) (k0_pay39 x0 x1 x2 x3 x4 x5) (k0_pay40 x0 x1 x2 x3 x4 x5) (k0_pay41 x0 x1 x2 x3 x4 x5) (View.ld x5 r0_8) (weights_fold x0 x1 x2 x3 x4 x5) a l

end Cert.KernelIdeal.Body
-- ==== Proof.Weights.lean ====
module

public import proofs.«01_k».proof.Proof.Algebra
public import proofs.«01_k».proof.Proof.Body

@[expose] public section

/-!
  # Selecting the weights of a node's type

  The kernel multiplies the weights of each of the four types by the type's indicator and adds; the reference selects.
  The indicator is exactly one or zero, so the sum is the weight of the node's type, or zero for a node of no known
  type.
-/

noncomputable section

namespace Cert.KernelIdeal.Weights

open Idealize.ShloMosaic Cert.KernelIdeal Cert.KernelIdeal.Body Cert.Algebra

/-- The word of the float two. -/
theorem ofBits_two : Ideal.ofBits .f32 0x40000000#32 = 2 := by
  rw [show (2 : EReal) = ((2 : ℝ) : EReal) by norm_cast]
  simp [Ideal.ofBits, Ideal.ieee, -EReal.coe_mul]
  norm_num

/-- The word of the float three. -/
theorem ofBits_three : Ideal.ofBits .f32 0x40400000#32 = 3 := by
  rw [show (3 : EReal) = ((3 : ℝ) : EReal) by norm_cast]
  simp [Ideal.ofBits, Ideal.ieee, -EReal.coe_mul]
  norm_num

/-- The indicator is one where the type is the given one and zero elsewhere. -/
theorem isType_eq (t e : EReal) : isType t e = if t = e then 1 else 0 := by
  change (((BitVec.setWidth 32 (BitVec.ofBool (decide (t = e)))).toInt : ℝ) : EReal) = _
  by_cases h : t = e
  · rw [if_pos h, decide_eq_true h]
    simp
  · rw [if_neg h, decide_eq_false h]
    simp

/-- A word read as a float equals a small whole number exactly when the word is that number. -/
theorem float_eq_iff (b : BitVec 32) (n : ℕ) (hn : n < 4) :
    (FloatOps.sitofp (F := Ideal) .f32 b : EReal) = ((n : ℝ) : EReal) ↔ b = BitVec.ofNat 32 n := by
  change ((b.toInt : ℝ) : EReal) = ((n : ℝ) : EReal) ↔ _
  rw [EReal.coe_eq_coe_iff]
  constructor
  · intro h
    have h' : b.toInt = (n : ℤ) := by exact_mod_cast h
    refine BitVec.eq_of_toInt_eq (h'.trans ?_)
    interval_cases n <;> rfl
  · rintro rfl
    interval_cases n <;> simp

/-- The sum of the four types' values, each times its type's indicator. -/
def mix (b : BitVec 32) (v : Fin 4 → EReal) : EReal :=
  v 0 * isType (FloatOps.sitofp (F := Ideal) .f32 b) 0 + v 1 * isType (FloatOps.sitofp (F := Ideal) .f32 b) 1
    + v 2 * isType (FloatOps.sitofp (F := Ideal) .f32 b) (Ideal.ofBits .f32 0x40000000#32)
    + v 3 * isType (FloatOps.sitofp (F := Ideal) .f32 b) (Ideal.ofBits .f32 0x40400000#32)

/-- The indicator of type `n` at a node's type word. -/
theorem isType_word (b : BitVec 32) :
    isType (FloatOps.sitofp (F := Ideal) .f32 b) 0 = (if b = 0#32 then 1 else 0)
    ∧ isType (FloatOps.sitofp (F := Ideal) .f32 b) 1 = (if b = 1#32 then 1 else 0)
    ∧ isType (FloatOps.sitofp (F := Ideal) .f32 b) (Ideal.ofBits .f32 0x40000000#32) = (if b = 2#32 then 1 else 0)
    ∧ isType (FloatOps.sitofp (F := Ideal) .f32 b) (Ideal.ofBits .f32 0x40400000#32) = (if b = 3#32 then 1 else 0) := by
  have h0 := float_eq_iff b 0 (by decide)
  have h1 := float_eq_iff b 1 (by decide)
  have h2 := float_eq_iff b 2 (by decide)
  have h3 := float_eq_iff b 3 (by decide)
  rw [show (((0 : ℕ) : ℝ) : EReal) = 0 by norm_cast] at h0
  rw [show (((1 : ℕ) : ℝ) : EReal) = 1 by norm_cast] at h1
  rw [show (((2 : ℕ) : ℝ) : EReal) = 2 by norm_cast] at h2
  rw [show (((3 : ℕ) : ℝ) : EReal) = 3 by norm_cast] at h3
  refine ⟨?_, ?_, ?_, ?_⟩
  · rw [isType_eq]; exact if_congr h0 rfl rfl
  · rw [isType_eq]; exact if_congr h1 rfl rfl
  · rw [isType_eq, ofBits_two]; exact if_congr h2 rfl rfl
  · rw [isType_eq, ofBits_three]; exact if_congr h3 rfl rfl

/-- At a node of type `e` the sum is the value of type `e`. -/
theorem mix_known (e : Fin 4) (v : Fin 4 → EReal) : mix (BitVec.ofNat 32 e.val) v = v e := by
  obtain ⟨h0, h1, h2, h3⟩ := isType_word (BitVec.ofNat 32 e.val)
  unfold mix
  rw [h0, h1, h2, h3]
  fin_cases e <;> simp

/-- At a node of no known type the sum is zero. -/
theorem mix_unknown (b : BitVec 32) (h : ∀ e : Fin 4, b ≠ BitVec.ofNat 32 e.val) (v : Fin 4 → EReal) : mix b v = 0 := by
  obtain ⟨h0, h1, h2, h3⟩ := isType_word b
  unfold mix
  rw [h0, h1, h2, h3, if_neg (show b ≠ 0#32 from h 0), if_neg (show b ≠ 1#32 from h 1),
    if_neg (show b ≠ 2#32 from h 2), if_neg (show b ≠ 3#32 from h 3)]
  simp

/-! ## The kernel's polynomial with selected weights -/

variable (x : Fin 16 → EReal) (u3 : Fin 16 → Fin 16 → Fin 16 → Fin 4 → EReal) (u2 : Fin 16 → Fin 16 → Fin 2 → EReal)
  (u1 : Fin 16 → Fin 1 → EReal) (w3 : Fin 4 → Fin 4 → EReal) (w2 : Fin 4 → Fin 2 → EReal) (w1 : Fin 4 → Fin 1 → EReal)

/-- The kernel's output element at a node with type word `b`; the weights' first argument is the type. -/
def selectedPoly (b : BitVec 32) : EReal :=
  kernelPoly (mirror EReal) x u3 u2 u1 (fun k => mix b fun e => w3 e k) (fun k => mix b fun e => w2 e k)
    (fun k => mix b fun e => w1 e k)

/-- The reference's contribution of type `e` at a node with type word `b`. -/
def contribution (b : BitVec 32) (e : Fin 4) : EReal :=
  Scalar.select (IntOp.cmpi .eq b (BitVec.ofNat 32 e.val)) (referencePoly x u3 u2 u1 (w3 e) (w2 e) (w1 e)) (0 : EReal)

/-- The contribution of the node's own type is the reference's polynomial. -/
theorem contribution_self (e : Fin 4) :
    contribution x u3 u2 u1 w3 w2 w1 (BitVec.ofNat 32 e.val) e = referencePoly x u3 u2 u1 (w3 e) (w2 e) (w1 e) := by
  unfold contribution Scalar.select IntOp.cmpi
  simp

/-- The contribution of another type is zero. -/
theorem contribution_other (b : BitVec 32) (e : Fin 4) (h : b ≠ BitVec.ofNat 32 e.val) :
    contribution x u3 u2 u1 w3 w2 w1 b e = 0 := by
  unfold contribution Scalar.select IntOp.cmpi
  rw [show (b == BitVec.ofNat 32 e.val) = false from beq_eq_false_iff_ne.mpr h]
  exact if_neg (show ¬ (BitVec.ofBool false = 1#1) by decide)

/-- Different types have different words. -/
theorem type_word_inj : ∀ e e' : Fin 4, BitVec.ofNat 32 e.val = BitVec.ofNat 32 e'.val → e' = e := by decide

/-- With real arguments the kernel's element is the sum of the reference's four contributions. -/
theorem selectedPoly_eq (b : BitVec 32) (hx : ∀ i, ∃ r : ℝ, x i = r) (h3 : ∀ i j l k, ∃ r : ℝ, u3 i j l k = r)
    (h2 : ∀ i j k, ∃ r : ℝ, u2 i j k = r) (h1 : ∀ i k, ∃ r : ℝ, u1 i k = r) (hw3 : ∀ e k, ∃ r : ℝ, w3 e k = r)
    (hw2 : ∀ e k, ∃ r : ℝ, w2 e k = r) (hw1 : ∀ e k, ∃ r : ℝ, w1 e k = r) :
    selectedPoly x u3 u2 u1 w3 w2 w1 b
      = contribution x u3 u2 u1 w3 w2 w1 b 0 + contribution x u3 u2 u1 w3 w2 w1 b 1
        + contribution x u3 u2 u1 w3 w2 w1 b 2 + contribution x u3 u2 u1 w3 w2 w1 b 3 := by
  unfold selectedPoly
  by_cases hb : ∃ e : Fin 4, b = BitVec.ofNat 32 e.val
  · obtain ⟨e, rfl⟩ := hb
    simp only [mix_known]
    rw [poly_eq x u3 u2 u1 (fun k => w3 e k) (fun k => w2 e k) (fun k => w1 e k) hx h3 h2 h1 (hw3 e) (hw2 e) (hw1 e)]
    have hself := contribution_self x u3 u2 u1 w3 w2 w1 e
    have hother : ∀ e' : Fin 4, e' ≠ e → contribution x u3 u2 u1 w3 w2 w1 (BitVec.ofNat 32 e.val) e' = 0 :=
      fun e' he => contribution_other x u3 u2 u1 w3 w2 w1 _ e' fun h => he (type_word_inj e e' h)
    refine hself.symm.trans ?_
    fin_cases e
    · rw [hother 1 (by decide), hother 2 (by decide), hother 3 (by decide), add_zero, add_zero, add_zero]; rfl
    · rw [hother 0 (by decide), hother 2 (by decide), hother 3 (by decide), add_zero, add_zero, zero_add]; rfl
    · rw [hother 0 (by decide), hother 1 (by decide), hother 3 (by decide), add_zero, add_zero, zero_add]; rfl
    · rw [hother 0 (by decide), hother 1 (by decide), hother 2 (by decide), add_zero, add_zero, zero_add]; rfl
  · have hn : ∀ e : Fin 4, b ≠ BitVec.ofNat 32 e.val := fun e h => hb ⟨e, h⟩
    simp only [mix_unknown b hn, contribution_other _ _ _ _ _ _ _ b _ (hn _), kernelPoly_zero, add_zero]

end Cert.KernelIdeal.Weights

end

end
-- ==== Proof.HostArrays.lean ====
module

public import proofs.«01_k».proof.Proof.Layout
public import proofs.«01_k».proof.Proof.Gen.KernelIdeal.Frame
public import Idealize.ShloMosaic.Lib.Pointwise
public import Idealize.ShloMosaic.Lib.Pipeline.Value
public import Idealize.ShloMosaic.Lib.Pipeline.ValueKit

@[expose] public section

set_option maxRecDepth 16384

/-!
# The arrays the kernel's blocks are cut from

Before the grid runs, the host lines rearrange the arguments: this module reads each rearranged array at an index, as
the arguments' own elements. The cubic matrix is folded: a pair of components with the first in the lower half and the
second in the upper half also carries the coefficient of the swapped pair.
-/

noncomputable section

namespace Cert.KernelIdeal.Host

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The input components. -/
abbrev argX : S4096x16x64.Idx → EReal := m (c, Proc.tc.devRef main_arg0)
/-- The node types. -/
abbrev argT : S4096.Idx → BitVec 32 := m (c, Proc.tc.devRef main_arg1)
/-- The cubic couplings. -/
abbrev argU3 : S4x16x16x16x4.Idx → EReal := m (c, Proc.tc.devRef main_arg2)
/-- The quadratic couplings. -/
abbrev argU2 : S4x16x16x2.Idx → EReal := m (c, Proc.tc.devRef main_arg3)
/-- The linear couplings. -/
abbrev argU1 : S4x16x1.Idx → EReal := m (c, Proc.tc.devRef main_arg4)
/-- The cubic weights. -/
abbrev argW3 : S4x4x4x64.Idx → EReal := m (c, Proc.tc.devRef main_arg5)
/-- The quadratic weights. -/
abbrev argW2 : S4x4x2x64.Idx → EReal := m (c, Proc.tc.devRef main_arg6)
/-- The linear weights. -/
abbrev argW1 : S4x4x1x64.Idx → EReal := m (c, Proc.tc.devRef main_arg7)

/-- The constant table the folding multiplies by. -/
def foldMask : (⟨S1x16x16, .f32⟩ : BufTy).Contents (Elt Ideal) := fun i => FloatOps.ofBits (F := Ideal) .f32 (lit0 (S1x16x16.rowMajor i))

/-- An array at the start of the grid, the constant table kept by name. -/
theorem V_eq (b : Ref sig .tc) : V m c b = StableHlo.after (StableHlo.nullary main_cst foldMask :: List.tail hostOps0) (fun b => m (c, b)) (Proc.tc.devRef b) := rfl

/-- The input array. -/
theorem x_array (i : Fin 16) (p : Fin 262144) :
    (V m c main_v25 : Vec Ideal S16x262144 .f32) (ix2 i p)
      = argX m c (ix3 (node p) i (chan p)) := by
  rw [V_eq]
  generalize foldMask = mask
  dsimp only [hostOps0, List.tail]
  after_results_simp
  pointwise []
  try rfl

/-- The node types as floats. -/
theorem t_array (p : Fin 262144) :
    (V m c main_v23 : Vec Ideal S1x262144 .f32) (ix2 0 p)
      = FloatOps.sitofp (F := Ideal) .f32 (argT m c (ix1 (node p))) := by
  rw [V_eq]
  generalize foldMask = mask
  dsimp only [hostOps0, List.tail]
  after_results_simp
  pointwise []
  try rfl

/-- The quadratic matrix. -/
theorem u2_array (a : Fin 4) (k : Fin 2) (i j : Fin 16) :
    (V m c main_v12 : Vec Ideal S128x16 .f32) (ix2 (row2 a k i) j)
      = argU2 m c (ix4 a i j k) := by
  rw [V_eq]
  generalize foldMask = mask
  dsimp only [hostOps0, List.tail]
  after_results_simp
  dsimp only [row3, row2, rowW, colLo, colHi]
  pointwise []
  blk_ext []

/-- The linear matrix. -/
theorem u1_array (a : Fin 4) (i : Fin 16) :
    (V m c main_v13 : Vec Ideal S4x16 .f32) (ix2 a i)
      = argU1 m c (ix3 a i 0) := by
  rw [V_eq]
  generalize foldMask = mask
  dsimp only [hostOps0, List.tail]
  after_results_simp
  pointwise []
  try blk_ext []

/-- The cubic weights in the weight matrix. -/
theorem w3_array (e a k : Fin 4) (l : Fin 8192) :
    (V m c main_v19 : Vec Ideal S4x28x8192 .f32) (ix3 e (rowW a ⟨k.val, by omega⟩) l)
      = argW3 m c (ix4 a e k ⟨l.val % 64, by omega⟩) := by
  rw [V_eq]
  generalize foldMask = mask
  dsimp only [hostOps0, List.tail]
  after_results
  dsimp only [rowW]
  pointwise []
  rw [dif_pos (show (a.val * 7 + k.val) % 7 < 4 by omega)]
  after_results_simp
  blk_ext []

/-- The quadratic weights in the weight matrix. -/
theorem w2_array (e a : Fin 4) (k : Fin 2) (l : Fin 8192) :
    (V m c main_v19 : Vec Ideal S4x28x8192 .f32) (ix3 e (rowW a ⟨4 + k.val, by omega⟩) l)
      = argW2 m c (ix4 a e k ⟨l.val % 64, by omega⟩) := by
  rw [V_eq]
  generalize foldMask = mask
  dsimp only [hostOps0, List.tail]
  after_results
  dsimp only [rowW]
  pointwise []
  rw [dif_neg (show ¬ (a.val * 7 + (4 + k.val)) % 7 < 4 by omega), dif_pos (show (a.val * 7 + (4 + k.val)) % 7 - 4 < 2 by omega)]
  after_results_simp
  blk_ext []

/-- The linear weights in the weight matrix. -/
theorem w1_array (e a : Fin 4) (l : Fin 8192) :
    (V m c main_v19 : Vec Ideal S4x28x8192 .f32) (ix3 e (rowW a 6) l)
      = argW1 m c (ix4 a e 0 ⟨l.val % 64, by omega⟩) := by
  rw [V_eq]
  generalize foldMask = mask
  dsimp only [hostOps0, List.tail]
  after_results
  dsimp only [rowW]
  pointwise []
  rw [dif_neg (show ¬ (a.val * 7 + 6) % 7 < 4 by omega), dif_neg (show ¬ (a.val * 7 + 6) % 7 - 4 < 2 by omega)]
  after_results_simp
  blk_ext []

/-- The cubic matrix at a pair whose first component is in the lower half. -/
theorem u3_lo (a k : Fin 4) (i : Fin 16) (j : Fin 8) (l : Fin 16) :
    (V m c main_v10 : Vec Ideal S256x192 .f32) (ix2 (row3 a k i) (colLo j l))
      = argU3 m c (ix5 a i (lo j) l k) + argU3 m c (ix5 a i l (lo j) k) * (foldMask (ix3 0 (lo j) l) : EReal) := by
  rw [V_eq]
  generalize foldMask = mask
  dsimp only [hostOps0, List.tail]
  after_results_simp
  dsimp only [row3, colLo, colHi, lo, hi]
  pointwise []
  rw [dif_pos (show 16 * j.val + l.val < 128 by omega)]
  refine congrArg₂ (· + ·) ?_ (congrArg₂ (· * ·) ?_ ?_) <;> blk_ext []

/-- The cubic matrix at a pair with both components in the upper half. -/
theorem u3_hi (a k : Fin 4) (i : Fin 16) (j l : Fin 8) :
    (V m c main_v10 : Vec Ideal S256x192 .f32) (ix2 (row3 a k i) (colHi j l))
      = argU3 m c (ix5 a i (hi j) (hi l) k) + argU3 m c (ix5 a i (hi l) (hi j) k) * (foldMask (ix3 0 (hi j) (hi l)) : EReal) := by
  rw [V_eq]
  generalize foldMask = mask
  dsimp only [hostOps0, List.tail]
  after_results_simp
  dsimp only [row3, colLo, colHi, lo, hi]
  pointwise []
  rw [dif_neg (show ¬ 128 + 8 * j.val + l.val < 128 by omega)]
  refine congrArg₂ (· + ·) ?_ (congrArg₂ (· * ·) ?_ ?_) <;> blk_ext []

/-- The table is one at a lower-half, upper-half pair, and zero elsewhere. -/
theorem foldMask_apply (j l : Fin 16) : (foldMask (ix3 0 j l) : EReal) = if j.val < 8 ∧ 8 ≤ l.val then 1 else 0 := by
  have h : ∀ j l : Fin 16, lit0 (S1x16x16.rowMajor (ix3 0 j l)) = if j.val < 8 ∧ 8 ≤ l.val then 0x3F800000#32 else 0#32 := by
    decide +kernel
  show Ideal.ofBits .f32 (lit0 (S1x16x16.rowMajor (ix3 0 j l))) = _
  rw [h]
  split <;> simp

end Cert.KernelIdeal.Host
-- ==== Proof.Element.lean ====
module

public import proofs.«01_k».proof.Proof.Weights
public import proofs.«01_k».proof.Proof.HostArrays

@[expose] public section

set_option maxRecDepth 16384

/-!
  # One element of the kernel's output block

  The body at grid point `t`, read at output component `a` and lane `l`, is the kernel's polynomial of the arguments at
  the node and channel that lane belongs to.
-/

noncomputable section

namespace Cert.KernelIdeal.Element

open Idealize.ShloMosaic Idealize.ShloMosaic.TcCoe Idealize.SL.Sem
open Cert.KernelIdeal Cert.KernelIdeal.Gen Cert.KernelIdeal.Body Cert.KernelIdeal.Host Cert.KernelIdeal.Weights Cert.Algebra

/-- What the body stores is the kernel's polynomial, given what each of its products reads. -/
theorem outVal_eq (xb : Vec Ideal S16x8192 .f32) (q3 : Vec Ideal S256x8192 .f32) (q2 : Vec Ideal S128x8192 .f32)
    (q1 : Vec Ideal S4x8192 .f32) (w : Vec Ideal S28x8192 .f32) (a : Fin 4) (l : Fin 8192)
    (mask : Fin 16 → Fin 16 → EReal) (x : Fin 16 → EReal) (u3 : Fin 16 → Fin 16 → Fin 16 → Fin 4 → EReal)
    (u2 : Fin 16 → Fin 16 → Fin 2 → EReal) (u1 : Fin 16 → Fin 1 → EReal) (w3 : Fin 4 → EReal) (w2 : Fin 2 → EReal)
    (w1 : Fin 1 → EReal)
    (hx : ∀ i, xb (ix2 i l) = x i)
    (h3 : ∀ k i, q3 (ix2 (row3 a k i) l) = folded mask (fun j l => u3 i j l k) x)
    (h2 : ∀ k i, q2 (ix2 (row2 a k i) l) = ∑ j : Fin 16, u2 i j k * x j)
    (h1 : q1 (ix2 a l) = ∑ i : Fin 16, u1 i 0 * x i)
    (hw3 : ∀ k : Fin 4, w (ix2 (rowW a ⟨k.val, by omega⟩) l) = w3 k)
    (hw2 : ∀ k : Fin 2, w (ix2 (rowW a ⟨4 + k.val, by omega⟩) l) = w2 k)
    (hw1 : w (ix2 (rowW a 6) l) = w1 0) :
    outVal xb q3 q2 q1 w a l = kernelPoly mask x u3 u2 u1 w3 w2 w1 := by
  unfold outVal kernelPoly
  rw [h1, hw1, show w (ix2 (rowW a 0) l) = w3 0 from hw3 0, show w (ix2 (rowW a 1) l) = w3 1 from hw3 1,
    show w (ix2 (rowW a 2) l) = w3 2 from hw3 2, show w (ix2 (rowW a 3) l) = w3 3 from hw3 3,
    show w (ix2 (rowW a 4) l) = w2 0 from hw2 0, show w (ix2 (rowW a 5) l) = w2 1 from hw2 1]
  simp only [hx, h3, h2]

/-! ## The blocks -/

/-- The flattened position of lane `l` of grid point `t`. -/
def pos (t : Fin cfg0.N) (l : Fin 8192) : Fin 262144 :=
  ⟨t.val * 8192 + l.val, by have h := t.isLt; have hN : cfg0.N = 32 := rfl; omega⟩

variable (m : (ℓ : Loc nD τ sig) → Buf (Elt Ideal) ℓ) (c : Dev nD)

/-- The block index of the input window at a point: the point's number along the lanes. -/
theorem index_x : ∀ t : Fin grid0.N, win0_0.index t = ![0, t.val] := by decide +kernel
/-- The block index of the window of node types. -/
theorem index_t : ∀ t : Fin grid0.N, win0_1.index t = ![0, t.val] := by decide +kernel
/-- The cubic matrix is one block. -/
theorem index_u3 : ∀ t : Fin grid0.N, win0_2.index t = ![0, 0] := by decide +kernel
/-- The quadratic matrix is one block. -/
theorem index_u2 : ∀ t : Fin grid0.N, win0_3.index t = ![0, 0] := by decide +kernel
/-- The linear matrix is one block. -/
theorem index_u1 : ∀ t : Fin grid0.N, win0_4.index t = ![0, 0] := by decide +kernel
/-- The weights are one block. -/
theorem index_w : ∀ t : Fin grid0.N, win0_5.index t = ![0, 0, 0] := by decide +kernel
/-- The block index of the output window: the point's number along the lanes. -/
theorem index_out : ∀ t : Fin grid0.N, win0_6.index t = ![0, t.val] := by decide +kernel

/-- The input block at an index. -/
theorem x_block (t : Fin cfg0.N) (i : Fin 16) (l : Fin 8192) :
    (iblk m c 0 t : Vec Ideal S16x8192 .f32) (ix2 i l) = argX m c (ix3 (node (pos t l)) i (chan (pos t l))) := by
  rw [← x_array]
  have e := index_x t
  blk_ext [iblk, pos, e]

/-- The block of node types at an index. -/
theorem t_block (t : Fin cfg0.N) (l : Fin 8192) :
    (iblk m c 1 t : Vec Ideal S1x8192 .f32) (ix2 0 l)
      = FloatOps.sitofp (F := Ideal) .f32 (argT m c (ix1 (node (pos t l)))) := by
  rw [← t_array]
  have e := index_t t
  blk_ext [iblk, pos, e]

/-- The cubic matrix's block is the matrix. -/
theorem u3_block (t : Fin cfg0.N) (r : Fin 256) (s : Fin 192) :
    (iblk m c 2 t : Vec Ideal S256x192 .f32) (ix2 r s) = (V m c main_v10 : Vec Ideal S256x192 .f32) (ix2 r s) := by
  have e := index_u3 t
  blk_ext [iblk, e]

/-- The quadratic matrix's block is the matrix. -/
theorem u2_block (t : Fin cfg0.N) (r : Fin 128) (s : Fin 16) :
    (iblk m c 3 t : Vec Ideal S128x16 .f32) (ix2 r s) = (V m c main_v12 : Vec Ideal S128x16 .f32) (ix2 r s) := by
  have e := index_u2 t
  blk_ext [iblk, e]

/-- The linear matrix's block is the matrix. -/
theorem u1_block (t : Fin cfg0.N) (r : Fin 4) (s : Fin 16) :
    (iblk m c 4 t : Vec Ideal S4x16 .f32) (ix2 r s) = (V m c main_v13 : Vec Ideal S4x16 .f32) (ix2 r s) := by
  have e := index_u1 t
  blk_ext [iblk, e]

/-- The weights' block is the whole array. -/
theorem w_block (t : Fin cfg0.N) (e : Fin 4) (q : Fin 28) (l : Fin 8192) :
    (iblk m c 5 t : Vec Ideal S4x28x8192 .f32) (ix3 e q l) = (V m c main_v19 : Vec Ideal S4x28x8192 .f32) (ix3 e q l) := by
  have h := index_w t
  blk_ext [iblk, h]

/-! ## The element -/

/-- The kernel's result at output component `a` and flattened position `p`. -/
def kernelAt (a : Fin 4) (p : Fin 262144) : EReal :=
  selectedPoly (fun i => argX m c (ix3 (node p) i (chan p))) (fun i j l k => argU3 m c (ix5 a i j l k))
    (fun i j k => argU2 m c (ix4 a i j k)) (fun i k => argU1 m c (ix3 a i k))
    (fun e k => argW3 m c (ix4 a e k (chan p))) (fun e k => argW2 m c (ix4 a e k (chan p)))
    (fun e k => argW1 m c (ix4 a e k (chan p))) (argT m c (ix1 (node p)))

/-- The channel of a lane does not depend on the grid point. -/
theorem chan_pos (t : Fin cfg0.N) (l : Fin 8192) : chan (pos t l) = ⟨l.val % 64, by omega⟩ := by
  refine Fin.ext ?_
  simp only [chan, pos]
  omega

/-- The fold mask is the mirror indicator. -/
theorem mask_eq (j l : Fin 16) : (foldMask (ix3 0 j l) : EReal) = mirror EReal j l := foldMask_apply j l

/-- A row of the cubic product is the folded quadratic form. -/
theorem cubic_row (t : Fin cfg0.N) (a k : Fin 4) (i : Fin 16) (l : Fin 8192) :
    k0_pay34 (F := Ideal) (iblk m c 0 t) (iblk m c 1 t) (iblk m c 2 t) (iblk m c 3 t) (iblk m c 4 t) (iblk m c 5 t)
        (ix2 (row3 a k i) l)
      = folded (mirror EReal) (fun j l => argU3 m c (ix5 a i j l k))
          (fun i => argX m c (ix3 (node (pos t l)) i (chan (pos t l)))) := by
  rw [q3_apply, sum_pairs]
  unfold folded
  refine congrArg₂ (· + ·) (Finset.sum_congr rfl fun j _ => Finset.sum_congr rfl fun s _ => ?_)
    (Finset.sum_congr rfl fun j _ => Finset.sum_congr rfl fun s _ => ?_)
  · rw [pairs_lo, u3_block, u3_lo, x_block, x_block, mask_eq]
  · rw [pairs_hi, u3_block, u3_hi, x_block, x_block, mask_eq]

/-- The body at grid point `t`, read at an index of its output block. -/
theorem element (t : Fin cfg0.N) (a : Fin 4) (l : Fin 8192) :
    out0_6 (F := Ideal) (iblk m c 0 t) (iblk m c 1 t) (iblk m c 2 t) (iblk m c 3 t) (iblk m c 4 t) (iblk m c 5 t) (ix2 a l)
      = kernelAt m c a (pos t l) := by
  rw [body_apply]
  unfold kernelAt selectedPoly
  refine outVal_eq _ _ _ _ _ a l (mirror EReal) _ _ _ _ _ _ _ (fun i => ?_) (fun k i => ?_) (fun k i => ?_) ?_
    (fun k => ?_) (fun k => ?_) ?_
  · rw [xb_apply, x_block]
  · exact cubic_row m c t a k i l
  · rw [q2_apply]
    refine Finset.sum_congr rfl fun j _ => ?_
    rw [u2_block, u2_array, x_block]
  · rw [q1_apply]
    refine Finset.sum_congr rfl fun j _ => ?_
    rw [u1_block, u1_array, x_block]
  · rw [w_apply, chan_pos]
    rw [w_block, w_block, w_block, w_block, w3_array, w3_array, w3_array, w3_array, t_block]
    rfl
  · rw [w_apply, chan_pos]
    rw [w_block, w_block, w_block, w_block, w2_array, w2_array, w2_array, w2_array, t_block]
    rfl
  · rw [w_apply, chan_pos]
    rw [w_block, w_block, w_block, w_block, w1_array, w1_array, w1_array, w1_array, t_block]
    rfl

end Cert.KernelIdeal.Element

end

end
-- ==== Proof.Result.lean ====
module

public import proofs.«01_k».proof.Proof.Element

@[expose] public section

set_option maxRecDepth 16384

/-!
  # The kernel's result array

  The grid's output blocks tile the output array, and two host lines afterwards bring it to the result's layout.
-/

noncomputable section

namespace Cert.KernelIdeal.Result

open Idealize.ShloMosaic Idealize.ShloMosaic.TcCoe Idealize.SL.Sem
open Cert.KernelIdeal Cert.KernelIdeal.Gen Cert.KernelIdeal.Element

variable (m : (ℓ : Loc nD τ sig) → Buf (Elt Ideal) ℓ) (c : Dev nD) (ρ : Dev nD → PrngReg)

/-- The array that the grid writes, named element by element. -/
def gridArray : Vec Ideal S4x262144 .f32 := fun y => kernelAt m c (y 0) (y 1)

/-- After the last grid point the output array holds it. -/
theorem grid_output : (dats m 0 c).arrAt 6 cfg0.N = gridArray m c := by
  refine (dats m 0 c).arrAt_eq_of_covers 6 _ (by decide +kernel) fun t hf y => ?_
  blk_simp
  rw [after0_6]
  obtain ⟨a, l, rfl⟩ : ∃ (a : Fin 4) (l : Fin 8192), y = ix2 a l := ⟨y 0, y 1, eq_ix2 y⟩
  refine (element m c t a l).trans ?_
  have e := index_out t
  refine Eq.trans (show _ = gridArray m c (ix2 a (pos t l)) from rfl) (congrArg (gridArray m c) ?_)
  blk_ext [pos, e]

/-- The flattened position of channel `q` of node `b`. -/
def flat (b : Fin 4096) (q : Fin 64) : Fin 262144 := ⟨b.val * 64 + q.val, by omega⟩

/-- The result array, named element by element: node, output component, channel. -/
def resultArray : Vec Ideal S4096x4x64 .f32 := fun y => kernelAt m c (y 1) (flat (y 0) (y 2))

/-- The host lines after the grid leave it. -/
theorem tail_output :
    (Pipeline.afterTail₀ cfgs (dats m) 0 (V0 m) [hostOps1] c main_v28 : Vec Ideal S4096x4x64 .f32) = resultArray m c := by
  funext y
  obtain ⟨b, a, q, rfl⟩ : ∃ (b : Fin 4096) (a : Fin 4) (q : Fin 64), y = ix3 b a q := ⟨y 0, y 1, y 2, eq_ix3 y⟩
  have h26 : Pipeline.withArrays (cfgs 0).spec c (V0 m c) (fun w => (dats m 0 c).arrAt w (cfgs 0).N)
      (Proc.devRef .tc main_v26) = gridArray m c :=
    (Pipeline.withArrays_arr (cfgs 0).spec (by decide) c (V0 m c) _ 6).trans (grid_output m c)
  unfold Pipeline.afterTail₀
  generalize Pipeline.withArrays (cfgs 0).spec c (V0 m c) (fun w => (dats m 0 c).arrAt w (cfgs 0).N) = W at h26 ⊢
  rw [show List.flatten [hostOps1 (F := Ideal)] = hostOps1 from rfl]
  dsimp only [hostOps1]
  after_results_simp
  rw [h26]
  refine Eq.trans ?_ (show gridArray m c (ix2 a (flat b q)) = resultArray m c (ix3 b a q) from rfl)
  generalize gridArray m c = A
  pointwise [flat]

/-- The kernel's run: the result array as named, the arguments unchanged. -/
theorem run : θ_run defs (onTc (τ := τ) (main (F := Ideal))) ⟨m, fun _ => 0, ρ⟩ fun r => ∀ c : Dev nD,
      r.2.mem ((c.tc : Thread nD τ).loc main_v28) = resultArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨((h.1 c).2 main_v28 (Pipeline.mem_restRefs_of main_v28 (by decide) (by decide))).trans (tail_output m c),
      h.2 c⟩)
    (θ_run_and (run_main m ρ) (unchanged m ρ))

end Cert.KernelIdeal.Result

end

end
-- ==== Proof.RefValue.lean ====
module

public import proofs.«01_k».proof.Proof.Algebra
public import proofs.«01_k».proof.Proof.Gen.ReferenceIdeal.Read
public import Idealize.ShloMosaic.Lib.Pointwise

@[expose] public section

set_option maxRecDepth 16384

/-!
  # What the reference computes

  The reference evaluates the polynomial of a node with the weights of each of the four node types in turn, keeps each
  result only where the node has that type, and adds the four.
-/

noncomputable section

namespace Cert.ReferenceIdeal.Elements

open Idealize.ShloMosaic Cert.ReferenceIdeal Cert.ReferenceIdeal.Read Cert.Algebra

variable (x0 : Vec Ideal S4096x16x64 .f32) (x1 : Vec Ideal S4096 .i32) (x2 : Vec Ideal S4x16x16x16x4 .f32)
  (x3 : Vec Ideal S4x16x16x2 .f32) (x4 : Vec Ideal S4x16x1 .f32) (x5 : Vec Ideal S4x4x4x64 .f32)
  (x6 : Vec Ideal S4x4x2x64 .f32) (x7 : Vec Ideal S4x4x1x64 .f32)

/-- The reference's polynomial for node `b`, output component `a`, channel `c`, with the weights of type `e`. -/
def poly (e : Fin 4) (b : Fin 4096) (a : Fin 4) (c : Fin 64) : EReal :=
  referencePoly (R := EReal) (fun i => x0 (ix3 b i c)) (fun i j l k => x2 (ix5 a i j l k)) (fun i j k => x3 (ix4 a i j k))
    (fun i k => x4 (ix3 a i k)) (fun k => x5 (ix4 a e k c)) (fun k => x6 (ix4 a e k c)) (fun k => x7 (ix4 a e k c))

/-- The contribution of type `e`: the polynomial where the node has that type, zero elsewhere. -/
def part (e : Fin 4) (b : Fin 4096) (a : Fin 4) (c : Fin 64) : EReal :=
  Scalar.select (IntOp.cmpi .eq (x1 (ix1 b)) (BitVec.ofNat 32 e.val)) (poly x0 x2 x3 x4 x5 x6 x7 e b a c) (0 : EReal)

/-- The array that holds the contribution of type 0. -/
theorem part0_apply (b : Fin 4096) (a : Fin 4) (c : Fin 64) :
    val_main_v31 (F := Ideal) x0 x1 x2 x3 x4 x5 x6 x7 (ix3 b a c) = part x0 x1 x2 x3 x4 x5 x6 x7 0 b a c := by
  unfold val_main_v31 val_main_call0_v1 val_main_call0_v0 val_main_cst_0 val_main_v30 val_main_v29 val_main_v28
    val_main_c val_main_v27 val_main_v26 val_main_v25 val_main_v24 val_main_v23 val_main_v22 val_main_v21
    val_main_v20 val_main_v19 val_main_v18 val_main_v17 val_main_v16 val_main_v15 val_main_v14 val_main_v13
    val_main_v12 val_main_v10 val_main_v9 val_main_v8 val_main_v7 val_main_v6 val_main_v5 val_main_v4
    val_main_v3 val_main_v2 val_main_v1 val_main_v0
  unfold part poly referencePoly
  pointwise []

/-- The array that holds the contribution of type 1. -/
theorem part1_apply (b : Fin 4096) (a : Fin 4) (c : Fin 64) :
    val_main_v52 (F := Ideal) x0 x1 x2 x3 x4 x5 x6 x7 (ix3 b a c) = part x0 x1 x2 x3 x4 x5 x6 x7 1 b a c := by
  unfold val_main_v52 val_main_call1_v1 val_main_call1_v0 val_main_cst_2 val_main_v51 val_main_v50 val_main_v49
    val_main_c_1 val_main_v48 val_main_v47 val_main_v46 val_main_v45 val_main_v44 val_main_v43 val_main_v42
    val_main_v41 val_main_v40 val_main_v39 val_main_v38 val_main_v37 val_main_v36 val_main_v35 val_main_v34
    val_main_v33 val_main_v10 val_main_v9 val_main_v8 val_main_v7 val_main_v6 val_main_v5 val_main_v4
    val_main_v3 val_main_v2 val_main_v1 val_main_v0
  unfold part poly referencePoly
  pointwise []

/-- The array that holds the contribution of type 2. -/
theorem part2_apply (b : Fin 4096) (a : Fin 4) (c : Fin 64) :
    val_main_v73 (F := Ideal) x0 x1 x2 x3 x4 x5 x6 x7 (ix3 b a c) = part x0 x1 x2 x3 x4 x5 x6 x7 2 b a c := by
  unfold val_main_v73 val_main_call2_v1 val_main_call2_v0 val_main_cst_4 val_main_v72 val_main_v71 val_main_v70
    val_main_c_3 val_main_v69 val_main_v68 val_main_v67 val_main_v66 val_main_v65 val_main_v64 val_main_v63
    val_main_v62 val_main_v61 val_main_v60 val_main_v59 val_main_v58 val_main_v57 val_main_v56 val_main_v55
    val_main_v54 val_main_v10 val_main_v9 val_main_v8 val_main_v7 val_main_v6 val_main_v5 val_main_v4
    val_main_v3 val_main_v2 val_main_v1 val_main_v0
  unfold part poly referencePoly
  pointwise []

/-- The array that holds the contribution of type 3. -/
theorem part3_apply (b : Fin 4096) (a : Fin 4) (c : Fin 64) :
    val_main_v94 (F := Ideal) x0 x1 x2 x3 x4 x5 x6 x7 (ix3 b a c) = part x0 x1 x2 x3 x4 x5 x6 x7 3 b a c := by
  unfold val_main_v94 val_main_call3_v1 val_main_call3_v0 val_main_cst_6 val_main_v93 val_main_v92 val_main_v91
    val_main_c_5 val_main_v90 val_main_v89 val_main_v88 val_main_v87 val_main_v86 val_main_v85 val_main_v84
    val_main_v83 val_main_v82 val_main_v81 val_main_v80 val_main_v79 val_main_v78 val_main_v77 val_main_v76
    val_main_v75 val_main_v10 val_main_v9 val_main_v8 val_main_v7 val_main_v6 val_main_v5 val_main_v4
    val_main_v3 val_main_v2 val_main_v1 val_main_v0
  unfold part poly referencePoly
  pointwise []

/-- The reference's result, element by element: the four contributions added in order. -/
theorem result_apply (b : Fin 4096) (a : Fin 4) (c : Fin 64) :
    val_main_v95 (F := Ideal) x0 x1 x2 x3 x4 x5 x6 x7 (ix3 b a c)
      = part x0 x1 x2 x3 x4 x5 x6 x7 0 b a c + part x0 x1 x2 x3 x4 x5 x6 x7 1 b a c
        + part x0 x1 x2 x3 x4 x5 x6 x7 2 b a c + part x0 x1 x2 x3 x4 x5 x6 x7 3 b a c := by
  have h0 : (val_main_v11 (F := Ideal) (ix3 b a c) : EReal) = 0 := by
    unfold val_main_v11 val_main_cst
    pointwise []
  rw [← part0_apply, ← part1_apply, ← part2_apply, ← part3_apply]
  refine Eq.trans ?_ (congrArg (fun z : EReal => z + _ + _ + _) (zero_add (val_main_v31 (F := Ideal) x0 x1 x2 x3 x4 x5 x6 x7 (ix3 b a c) : EReal)))
  rw [← h0]
  rfl

end Cert.ReferenceIdeal.Elements

end

end
-- ==== Proof.Finite.lean ====
module

public import proofs.«01_k».proof.Defs
public import proofs.«01_k».proof.Proof.HostArrays
public import proofs.«01_k».proof.Proof.Gen.Pre_finite

@[expose] public section

/-!
  # What the precondition gives

  The precondition compares the magnitude of every element of the seven float arguments against +∞. Over the
  extended reals an element passes exactly when it is a real number.
-/

noncomputable section

namespace Cert.KernelIdeal.Finite

open Idealize.ShloMosaic Idealize.ShloMosaic.TcCoe Idealize.SL.Sem
open Cert.KernelIdeal Cert.KernelIdeal.Host

/-- The word that the precondition compares against denotes +∞. -/
theorem ofBits_inf : Ideal.ofBits .f32 0x7F800000#32 = ⊤ := by
  simp [Ideal.ofBits, Ideal.ieee]

/-- An extended real whose magnitude is below +∞ is a real number. -/
theorem real_of_below {v : EReal} (h : max v (-v) < ⊤) : ∃ r : ℝ, v = (r : EReal) := by
  induction v with
  | bot => simp at h
  | top => simp at h
  | coe r => exact ⟨r, rfl⟩

/-- One element of an array that the comparison passes is a real number. -/
theorem real_of_passes {s : Shape} (v : s.Idx → EReal) (w : s.Idx → EReal)
    (hw : ∀ i, w i = Ideal.ofBits .f32 0x7F800000#32)
    (h : cmpf (F := Ideal) (φ := .f32) .olt (Host.absf (F := Ideal) (φ := .f32) v) w = fun _ => 1#1) (i : s.Idx) :
    ∃ r : ℝ, v i = (r : EReal) := by
  have e := congrFun h i
  refine real_of_below ?_
  change BitVec.ofBool (decide (max (v i) (-(v i)) < w i)) = 1#1 at e
  rw [hw, ofBits_inf] at e
  by_contra hn
  rw [decide_eq_false hn] at e
  exact absurd e (by decide)

variable (m : (ℓ : Loc nD τ sig) → Buf (Elt Ideal) ℓ)

/-- Every element of every float argument is a real number, on device `c`. -/
structure AllReal (c : Dev nD) : Prop where
  x : ∀ i, ∃ r : ℝ, argX m c i = (r : EReal)
  u3 : ∀ i, ∃ r : ℝ, argU3 m c i = (r : EReal)
  u2 : ∀ i, ∃ r : ℝ, argU2 m c i = (r : EReal)
  u1 : ∀ i, ∃ r : ℝ, argU1 m c i = (r : EReal)
  w3 : ∀ i, ∃ r : ℝ, argW3 m c i = (r : EReal)
  w2 : ∀ i, ∃ r : ℝ, argW2 m c i = (r : EReal)
  w1 : ∀ i, ∃ r : ℝ, argW1 m c i = (r : EReal)

/-- The precondition, read: every float argument is real everywhere. -/
theorem allReal (h : Cert.Pre_KernelIdeal_finite (hPre_finite := Cert.Pre_finite.Gen.facts) m) (c : Dev nD) :
    AllReal m c where
  x := real_of_passes _ _ (fun _ => rfl) (h c).1
  u3 := real_of_passes _ _ (fun _ => rfl) (h c).2.1
  u2 := real_of_passes _ _ (fun _ => rfl) (h c).2.2.1
  u1 := real_of_passes _ _ (fun _ => rfl) (h c).2.2.2.1
  w3 := real_of_passes _ _ (fun _ => rfl) (h c).2.2.2.2.1
  w2 := real_of_passes _ _ (fun _ => rfl) (h c).2.2.2.2.2.1
  w1 := real_of_passes _ _ (fun _ => rfl) (h c).2.2.2.2.2.2

end Cert.KernelIdeal.Finite

end

end
-- ==== Proof.Claims.lean ====
module

public import proofs.«01_k».proof.Defs
public import proofs.«01_k».proof.Proof.Result
public import proofs.«01_k».proof.Proof.RefValue
public import proofs.«01_k».proof.Proof.Finite
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent

@[expose] public section

set_option maxRecDepth 16384

/-!
  # The claims

  The frames are the generated runs. The value claim compares the two result arrays element by element.
-/

noncomputable section

namespace Cert.Claims

open Idealize.ShloMosaic Idealize.ShloMosaic.TcCoe Idealize.SL.Sem
open Cert.KernelIdeal Cert.KernelIdeal.Host Cert.KernelIdeal.Finite Cert.KernelIdeal.Element Cert.KernelIdeal.Result

/-- A flattened position gives its node back. -/
theorem node_flat (b : Fin 4096) (q : Fin 64) : node (flat b q) = b := by
  refine Fin.ext ?_
  simp only [node, flat]
  omega

/-- A flattened position gives its channel back. -/
theorem chan_flat (b : Fin 4096) (q : Fin 64) : chan (flat b q) = q := by
  refine Fin.ext ?_
  simp only [chan, flat]
  omega

/-- One contribution of the reference, of the kernel's arguments. -/
theorem part_eq (m : (ℓ : Loc nD τ sig) → Buf (Elt Ideal) ℓ) (c : Dev nD) (e : Fin 4) (b : Fin 4096) (a : Fin 4) (q : Fin 64) :
    Cert.ReferenceIdeal.Elements.part (argX m c) (argT m c) (argU3 m c) (argU2 m c) (argU1 m c) (argW3 m c) (argW2 m c)
        (argW1 m c) e b a q
      = Weights.contribution (fun i => argX m c (ix3 b i q)) (fun i j l k => argU3 m c (ix5 a i j l k))
          (fun i j k => argU2 m c (ix4 a i j k)) (fun i k => argU1 m c (ix3 a i k)) (fun e k => argW3 m c (ix4 a e k q))
          (fun e k => argW2 m c (ix4 a e k q)) (fun e k => argW1 m c (ix4 a e k q)) (argT m c (ix1 b)) e := by
  unfold Cert.ReferenceIdeal.Elements.part Cert.ReferenceIdeal.Elements.poly Weights.contribution
  rfl

/-- Where every float argument is real, the kernel's element is the sum of the reference's contributions. -/
theorem kernelAt_eq (m : (ℓ : Loc nD τ sig) → Buf (Elt Ideal) ℓ) (c : Dev nD) (h : AllReal m c) (b : Fin 4096) (a : Fin 4)
    (q : Fin 64) :
    kernelAt m c a (flat b q)
      = Cert.ReferenceIdeal.Read.val_main_v95 (F := Ideal) (argX m c) (argT m c) (argU3 m c) (argU2 m c) (argU1 m c)
          (argW3 m c) (argW2 m c) (argW1 m c) (ix3 b a q) := by
  rw [Cert.ReferenceIdeal.Elements.result_apply, part_eq, part_eq, part_eq, part_eq]
  unfold kernelAt
  rw [node_flat, chan_flat]
  refine Weights.selectedPoly_eq _ _ _ _ _ _ _ _ ?_ ?_ ?_ ?_ ?_ ?_ ?_
  · exact fun i => h.x _
  · exact fun i j l k => h.u3 _
  · exact fun i j k => h.u2 _
  · exact fun i k => h.u1 _
  · exact fun e k => h.w3 _
  · exact fun e k => h.w2 _
  · exact fun e k => h.w1 _

/-- Where every float argument is real, the reference's array of the kernel's arguments is the kernel's result. -/
theorem arrays_eq (m : (ℓ : Loc nD τ sig) → Buf (Elt Ideal) ℓ) (c : Dev nD) (h : AllReal m c) :
    Cert.ReferenceIdeal.Read.val_main_v95 (F := Ideal) (argX m c) (argT m c) (argU3 m c) (argU2 m c) (argU1 m c)
        (argW3 m c) (argW2 m c) (argW1 m c)
      = resultArray m c := by
  funext y
  obtain ⟨b, a, q, rfl⟩ : ∃ (b : Fin 4096) (a : Fin 4) (q : Fin 64), y = ix3 b a q := ⟨y 0, y 1, y 2, eq_ix3 y⟩
  exact (kernelAt_eq m c h b a q).symm

/-- The reference's frame: its run leaves the arguments, and it has no semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The value claim: from real float arguments both programs end with the same result array. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => resultArray m c, run m ρ, (θ_run Cert.ReferenceIdeal.defs _ _).mono (fun _ h c => ⟨?_, (h c).2⟩)
    (Cert.ReferenceIdeal.Value.run (F := Ideal) m' ρ')⟩
  obtain ⟨e0, e1, e2, e3, e4, e5, e6, e7⟩ := hagree c
  refine ((h c).1.trans (Cert.ReferenceIdeal.Read.val_main_v95_eq m' c)).trans ?_
  rw [e0, e1, e2, e3, e4, e5, e6, e7]
  exact arrays_eq m c (allReal m hpre c)

end Cert.Claims

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Claims
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- The certificate: the three frames, the ideal pass changing nothing, and the value claim. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    Cert.Claims.frame_reference,
    fun m ρ _ => Cert.Claims.frame_reference m ρ trivial,
    trivial,
    Cert.Claims.algebraic⟩

end Cert.Proof

end
